-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x16x32x256 : Shape := ⟨4, ![12, 16, 32, 256]⟩
abbrev S12x16x32 : Shape := ⟨3, ![12, 16, 32]⟩
abbrev S3x3x256x384 : Shape := ⟨4, ![3, 3, 256, 384]⟩
abbrev S2x384 : Shape := ⟨2, ![2, 384]⟩
abbrev S384 : Shape := ⟨1, ![384]⟩
abbrev S9x256x384 : Shape := ⟨3, ![9, 256, 384]⟩
abbrev S1x384 : Shape := ⟨2, ![1, 384]⟩
abbrev S12x32x64x384 : Shape := ⟨4, ![12, 32, 64, 384]⟩
abbrev S1x16x32x256 : Shape := ⟨4, ![1, 16, 32, 256]⟩
abbrev S1x16x32 : Shape := ⟨3, ![1, 16, 32]⟩
abbrev S14x256x256 : Shape := ⟨3, ![14, 256, 256]⟩
abbrev S2x16x32x128 : Shape := ⟨4, ![2, 16, 32, 128]⟩
abbrev S512x256 : Shape := ⟨2, ![512, 256]⟩
abbrev S2x3x32x64x128 : Shape := ⟨5, ![2, 3, 32, 64, 128]⟩
abbrev S2x3 : Shape := ⟨2, ![2, 3]⟩
abbrev S1x128x128 : Shape := ⟨3, ![1, 128, 128]⟩
abbrev S128x128 : Shape := ⟨2, ![128, 128]⟩
abbrev S1x128 : Shape := ⟨2, ![1, 128]⟩
abbrev S256x128 : Shape := ⟨2, ![256, 128]⟩
abbrev S1x256x128 : Shape := ⟨3, ![1, 256, 128]⟩
abbrev S16x32 : Shape := ⟨2, ![16, 32]⟩
abbrev S32x16 : Shape := ⟨2, ![32, 16]⟩
abbrev S32x1 : Shape := ⟨2, ![32, 1]⟩
abbrev S32x128 : Shape := ⟨2, ![32, 128]⟩
abbrev S1x1x32x128 : Shape := ⟨4, ![1, 1, 32, 128]⟩
abbrev S8x128 : Shape := ⟨2, ![8, 128]⟩
abbrev S1x1 : Shape := ⟨2, ![1, 1]⟩
abbrev S_ : Shape := ⟨0, ![]⟩
abbrev S1x32x64x128 : Shape := ⟨4, ![1, 32, 64, 128]⟩
abbrev S32x64x128 : Shape := ⟨3, ![32, 64, 128]⟩
abbrev S1x1x32x64x128 : Shape := ⟨5, ![1, 1, 32, 64, 128]⟩
abbrev S512x128 : Shape := ⟨2, ![512, 128]⟩
abbrev S16x32x128 : Shape := ⟨3, ![16, 32, 128]⟩
abbrev S1x32x128 : Shape := ⟨3, ![1, 32, 128]⟩
abbrev S15x32x128 : Shape := ⟨3, ![15, 32, 128]⟩
abbrev S8x1x128 : Shape := ⟨3, ![8, 1, 128]⟩
abbrev S8x8x128 : Shape := ⟨3, ![8, 8, 128]⟩
abbrev S64x128 : Shape := ⟨2, ![64, 128]⟩
abbrev S1x1x1x64x128 : Shape := ⟨5, ![1, 1, 1, 64, 128]⟩

abbrev nBuf : Space → Nat
  | .hbm => 8
  | .vmem => 11
  | .smem => 0
  | _ => 0

abbrev bufTy : (tb : Table) → Fin (tcTables nBuf tb) → BufTy
  | .hbm, ⟨0, _⟩ => ⟨S12x16x32x256, .fp8e4m3⟩
  | .hbm, ⟨1, _⟩ => ⟨S12x16x32, .f32⟩
  | .hbm, ⟨2, _⟩ => ⟨S3x3x256x384, .fp8e4m3⟩
  | .hbm, ⟨3, _⟩ => ⟨S2x384, .f32⟩
  | .hbm, ⟨4, _⟩ => ⟨S384, .f32⟩
  | .hbm, ⟨5, _⟩ => ⟨S9x256x384, .fp8e4m3⟩
  | .hbm, ⟨6, _⟩ => ⟨S1x384, .f32⟩
  | .hbm, ⟨7, _⟩ => ⟨S12x32x64x384, .bf16⟩
  | .local _ .vmem, ⟨0, _⟩ => ⟨S1x16x32x256, .fp8e4m3⟩
  | .local _ .vmem, ⟨1, _⟩ => ⟨S1x16x32x256, .fp8e4m3⟩
  | .local _ .vmem, ⟨2, _⟩ => ⟨S1x16x32, .f32⟩
  | .local _ .vmem, ⟨3, _⟩ => ⟨S1x16x32, .f32⟩
  | .local _ .vmem, ⟨4, _⟩ => ⟨S9x256x384, .fp8e4m3⟩
  | .local _ .vmem, ⟨5, _⟩ => ⟨S2x384, .f32⟩
  | .local _ .vmem, ⟨6, _⟩ => ⟨S1x384, .f32⟩
  | .local _ .vmem, ⟨7, _⟩ => ⟨S14x256x256, .bf16⟩
  | .local _ .vmem, ⟨8, _⟩ => ⟨S2x16x32x128, .f32⟩
  | .local _ .vmem, ⟨9, _⟩ => ⟨S512x256, .bf16⟩
  | .local _ .vmem, ⟨10, _⟩ => ⟨S2x3x32x64x128, .bf16⟩
  | _, _ => ⟨S12x16x32x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c2_i32_1052 : BitVec 32 := 2#32
  let v832 : BitVec 1 := Scalar.cmpi .sge arg0 c2_i32_1052
  let v833 : BitVec 32 := Scalar.extui v832
  let c0_i32_1053 : BitVec 32 := 0#32
  let v834 : BitVec 1 := Scalar.cmpi .ne v833 c0_i32_1053
  v834

def k0_off1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_2142 : BitVec 32 := 0#32
  ![v9.toNat, 0]
def k0_off2 (i : grid0.Coords) : Fin 4 → Nat :=
  let arg0 : BitVec 32 := BitVec.ofNat 32 (i 0).val
  let c2_i32_2140 : BitVec 32 := 2#32
  let v8919 : BitVec 32 := Scalar.subi arg0 c2_i32_2140
  let c0_i32_2143 : BitVec 32 := 0#32
  let c0_i32_2144 : BitVec 32 := 0#32
  let c0_i32_2145 : BitVec 32 := 0#32
  ![v8919.toNat, 0, 0, 0]
def k0_off3 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_2141 : BitVec 32 := 0#32
  let c0_i32_2146 : BitVec 32 := 0#32
  let c0_i32_2147 : BitVec 32 := 0#32
  let c0_i32_2148 : BitVec 32 := 0#32
  ![v9.toNat, 0, 0, 0, 0]
def k0_off4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_2151 : BitVec 32 := 1#32
  ![v9.toNat, 1]
def k0_off5 (i : grid0.Coords) : Fin 4 → Nat :=
  let arg0 : BitVec 32 := BitVec.ofNat 32 (i 0).val
  let c2_i32_2149 : BitVec 32 := 2#32
  let v8926 : BitVec 32 := Scalar.subi arg0 c2_i32_2149
  let c0_i32_2152 : BitVec 32 := 0#32
  let c0_i32_2153 : BitVec 32 := 0#32
  let c128_i32_2154 : BitVec 32 := 128#32
  ![v8926.toNat, 0, 0, 128]
def k0_off6 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_2150 : BitVec 32 := 1#32
  let c0_i32_2155 : BitVec 32 := 0#32
  let c0_i32_2156 : BitVec 32 := 0#32
  let c0_i32_2157 : BitVec 32 := 0#32
  ![v9.toNat, 1, 0, 0, 0]
def k0_off7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_2160 : BitVec 32 := 2#32
  ![v9.toNat, 2]
def k0_off8 (i : grid0.Coords) : Fin 4 → Nat :=
  let arg0 : BitVec 32 := BitVec.ofNat 32 (i 0).val
  let c2_i32_2158 : BitVec 32 := 2#32
  let v8933 : BitVec 32 := Scalar.subi arg0 c2_i32_2158
  let c0_i32_2161 : BitVec 32 := 0#32
  let c0_i32_2162 : BitVec 32 := 0#32
  let c256_i32_2163 : BitVec 32 := 256#32
  ![v8933.toNat, 0, 0, 256]
def k0_off9 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_2159 : BitVec 32 := 2#32
  let c0_i32_2164 : BitVec 32 := 0#32
  let c0_i32_2165 : BitVec 32 := 0#32
  let c0_i32_2166 : BitVec 32 := 0#32
  ![v9.toNat, 2, 0, 0, 0]
def k0_off10 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v978 : Index := Scalar.indexCast v9
  let c0_1100 : Index := 0#32
  let c0_1101 : Index := 0#32
  let c0_1102 : Index := 0#32
  let c0_1103 : Index := 0#32
  ![v978.toNat, 0, 0, 0, 0]
def k0_off11 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1060 : Index := Scalar.indexCast v9
  let c0_1110 : Index := 0#32
  let c1_1111 : Index := 1#32
  let c0_1112 : Index := 0#32
  let c0_1113 : Index := 0#32
  ![v1060.toNat, 0, 1, 0, 0]
def k0_off12 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1142 : Index := Scalar.indexCast v9
  let c0_1120 : Index := 0#32
  let c2_1121 : Index := 2#32
  let c0_1122 : Index := 0#32
  let c0_1123 : Index := 0#32
  ![v1142.toNat, 0, 2, 0, 0]
def k0_off13 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1224 : Index := Scalar.indexCast v9
  let c0_1130 : Index := 0#32
  let c3_1131 : Index := 3#32
  let c0_1132 : Index := 0#32
  let c0_1133 : Index := 0#32
  ![v1224.toNat, 0, 3, 0, 0]
def k0_off14 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1306 : Index := Scalar.indexCast v9
  let c0_1140 : Index := 0#32
  let c4_1141 : Index := 4#32
  let c0_1142 : Index := 0#32
  let c0_1143 : Index := 0#32
  ![v1306.toNat, 0, 4, 0, 0]
def k0_off15 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1388 : Index := Scalar.indexCast v9
  let c0_1150 : Index := 0#32
  let c5_1151 : Index := 5#32
  let c0_1152 : Index := 0#32
  let c0_1153 : Index := 0#32
  ![v1388.toNat, 0, 5, 0, 0]
def k0_off16 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1470 : Index := Scalar.indexCast v9
  let c0_1160 : Index := 0#32
  let c6_1161 : Index := 6#32
  let c0_1162 : Index := 0#32
  let c0_1163 : Index := 0#32
  ![v1470.toNat, 0, 6, 0, 0]
def k0_off17 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1552 : Index := Scalar.indexCast v9
  let c0_1170 : Index := 0#32
  let c7_1171 : Index := 7#32
  let c0_1172 : Index := 0#32
  let c0_1173 : Index := 0#32
  ![v1552.toNat, 0, 7, 0, 0]
def k0_off18 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1634 : Index := Scalar.indexCast v9
  let c0_1180 : Index := 0#32
  let c8_1181 : Index := 8#32
  let c0_1182 : Index := 0#32
  let c0_1183 : Index := 0#32
  ![v1634.toNat, 0, 8, 0, 0]
def k0_off19 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1716 : Index := Scalar.indexCast v9
  let c0_1190 : Index := 0#32
  let c9_1191 : Index := 9#32
  let c0_1192 : Index := 0#32
  let c0_1193 : Index := 0#32
  ![v1716.toNat, 0, 9, 0, 0]
def k0_off20 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1798 : Index := Scalar.indexCast v9
  let c0_1200 : Index := 0#32
  let c10_1201 : Index := 10#32
  let c0_1202 : Index := 0#32
  let c0_1203 : Index := 0#32
  ![v1798.toNat, 0, 10, 0, 0]
def k0_off21 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1880 : Index := Scalar.indexCast v9
  let c0_1210 : Index := 0#32
  let c11_1211 : Index := 11#32
  let c0_1212 : Index := 0#32
  let c0_1213 : Index := 0#32
  ![v1880.toNat, 0, 11, 0, 0]
def k0_off22 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1962 : Index := Scalar.indexCast v9
  let c0_1220 : Index := 0#32
  let c12_1221 : Index := 12#32
  let c0_1222 : Index := 0#32
  let c0_1223 : Index := 0#32
  ![v1962.toNat, 0, 12, 0, 0]
def k0_off23 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2044 : Index := Scalar.indexCast v9
  let c0_1230 : Index := 0#32
  let c13_1231 : Index := 13#32
  let c0_1232 : Index := 0#32
  let c0_1233 : Index := 0#32
  ![v2044.toNat, 0, 13, 0, 0]
def k0_off24 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2126 : Index := Scalar.indexCast v9
  let c0_1240 : Index := 0#32
  let c14_1241 : Index := 14#32
  let c0_1242 : Index := 0#32
  let c0_1243 : Index := 0#32
  ![v2126.toNat, 0, 14, 0, 0]
def k0_off25 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2208 : Index := Scalar.indexCast v9
  let c0_1250 : Index := 0#32
  let c15_1251 : Index := 15#32
  let c0_1252 : Index := 0#32
  let c0_1253 : Index := 0#32
  ![v2208.toNat, 0, 15, 0, 0]
def k0_off26 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2290 : Index := Scalar.indexCast v9
  let c0_1260 : Index := 0#32
  let c16 : Index := 16#32
  let c0_1261 : Index := 0#32
  let c0_1262 : Index := 0#32
  ![v2290.toNat, 0, 16, 0, 0]
def k0_off27 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2372 : Index := Scalar.indexCast v9
  let c0_1269 : Index := 0#32
  let c17 : Index := 17#32
  let c0_1270 : Index := 0#32
  let c0_1271 : Index := 0#32
  ![v2372.toNat, 0, 17, 0, 0]
def k0_off28 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2454 : Index := Scalar.indexCast v9
  let c0_1278 : Index := 0#32
  let c18 : Index := 18#32
  let c0_1279 : Index := 0#32
  let c0_1280 : Index := 0#32
  ![v2454.toNat, 0, 18, 0, 0]
def k0_off29 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2536 : Index := Scalar.indexCast v9
  let c0_1287 : Index := 0#32
  let c19 : Index := 19#32
  let c0_1288 : Index := 0#32
  let c0_1289 : Index := 0#32
  ![v2536.toNat, 0, 19, 0, 0]
def k0_off30 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2618 : Index := Scalar.indexCast v9
  let c0_1296 : Index := 0#32
  let c20 : Index := 20#32
  let c0_1297 : Index := 0#32
  let c0_1298 : Index := 0#32
  ![v2618.toNat, 0, 20, 0, 0]
def k0_off31 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2700 : Index := Scalar.indexCast v9
  let c0_1305 : Index := 0#32
  let c21 : Index := 21#32
  let c0_1306 : Index := 0#32
  let c0_1307 : Index := 0#32
  ![v2700.toNat, 0, 21, 0, 0]
def k0_off32 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2782 : Index := Scalar.indexCast v9
  let c0_1314 : Index := 0#32
  let c22 : Index := 22#32
  let c0_1315 : Index := 0#32
  let c0_1316 : Index := 0#32
  ![v2782.toNat, 0, 22, 0, 0]
def k0_off33 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2864 : Index := Scalar.indexCast v9
  let c0_1323 : Index := 0#32
  let c23 : Index := 23#32
  let c0_1324 : Index := 0#32
  let c0_1325 : Index := 0#32
  ![v2864.toNat, 0, 23, 0, 0]
def k0_off34 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2946 : Index := Scalar.indexCast v9
  let c0_1332 : Index := 0#32
  let c24 : Index := 24#32
  let c0_1333 : Index := 0#32
  let c0_1334 : Index := 0#32
  ![v2946.toNat, 0, 24, 0, 0]
def k0_off35 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3028 : Index := Scalar.indexCast v9
  let c0_1341 : Index := 0#32
  let c25 : Index := 25#32
  let c0_1342 : Index := 0#32
  let c0_1343 : Index := 0#32
  ![v3028.toNat, 0, 25, 0, 0]
def k0_off36 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3110 : Index := Scalar.indexCast v9
  let c0_1350 : Index := 0#32
  let c26 : Index := 26#32
  let c0_1351 : Index := 0#32
  let c0_1352 : Index := 0#32
  ![v3110.toNat, 0, 26, 0, 0]
def k0_off37 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3192 : Index := Scalar.indexCast v9
  let c0_1359 : Index := 0#32
  let c27 : Index := 27#32
  let c0_1360 : Index := 0#32
  let c0_1361 : Index := 0#32
  ![v3192.toNat, 0, 27, 0, 0]
def k0_off38 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3274 : Index := Scalar.indexCast v9
  let c0_1368 : Index := 0#32
  let c28 : Index := 28#32
  let c0_1369 : Index := 0#32
  let c0_1370 : Index := 0#32
  ![v3274.toNat, 0, 28, 0, 0]
def k0_off39 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3356 : Index := Scalar.indexCast v9
  let c0_1377 : Index := 0#32
  let c29 : Index := 29#32
  let c0_1378 : Index := 0#32
  let c0_1379 : Index := 0#32
  ![v3356.toNat, 0, 29, 0, 0]
def k0_off40 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3438 : Index := Scalar.indexCast v9
  let c0_1386 : Index := 0#32
  let c30 : Index := 30#32
  let c0_1387 : Index := 0#32
  let c0_1388 : Index := 0#32
  ![v3438.toNat, 0, 30, 0, 0]
def k0_off41 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3520 : Index := Scalar.indexCast v9
  let c0_1395 : Index := 0#32
  let c31 : Index := 31#32
  let c0_1396 : Index := 0#32
  let c0_1397 : Index := 0#32
  ![v3520.toNat, 0, 31, 0, 0]
def k0_off42 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1399 : BitVec 32 := 0#32
  ![v9.toNat, 0]
def k0_off43 (i : grid0.Coords) : Fin 4 → Nat :=
  let arg0 : BitVec 32 := BitVec.ofNat 32 (i 0).val
  let c0_i32_1400 : BitVec 32 := 0#32
  let c0_i32_1401 : BitVec 32 := 0#32
  let c0_i32_1402 : BitVec 32 := 0#32
  ![arg0.toNat, 0, 0, 0]
def k0_off44 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1398 : BitVec 32 := 0#32
  let c0_i32_1403 : BitVec 32 := 0#32
  let c0_i32_1404 : BitVec 32 := 0#32
  let c0_i32_1405 : BitVec 32 := 0#32
  ![v9.toNat, 0, 0, 0, 0]
def k0_off45 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3671 : Index := Scalar.indexCast v9
  let c1_1451 : Index := 1#32
  let c0_1452 : Index := 0#32
  let c0_1453 : Index := 0#32
  let c0_1454 : Index := 0#32
  ![v3671.toNat, 1, 0, 0, 0]
def k0_off46 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3753 : Index := Scalar.indexCast v9
  let c1_1461 : Index := 1#32
  let c1_1462 : Index := 1#32
  let c0_1463 : Index := 0#32
  let c0_1464 : Index := 0#32
  ![v3753.toNat, 1, 1, 0, 0]
def k0_off47 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3835 : Index := Scalar.indexCast v9
  let c1_1471 : Index := 1#32
  let c2_1472 : Index := 2#32
  let c0_1473 : Index := 0#32
  let c0_1474 : Index := 0#32
  ![v3835.toNat, 1, 2, 0, 0]
def k0_off48 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3917 : Index := Scalar.indexCast v9
  let c1_1481 : Index := 1#32
  let c3_1482 : Index := 3#32
  let c0_1483 : Index := 0#32
  let c0_1484 : Index := 0#32
  ![v3917.toNat, 1, 3, 0, 0]
def k0_off49 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3999 : Index := Scalar.indexCast v9
  let c1_1491 : Index := 1#32
  let c4_1492 : Index := 4#32
  let c0_1493 : Index := 0#32
  let c0_1494 : Index := 0#32
  ![v3999.toNat, 1, 4, 0, 0]
def k0_off50 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4081 : Index := Scalar.indexCast v9
  let c1_1501 : Index := 1#32
  let c5_1502 : Index := 5#32
  let c0_1503 : Index := 0#32
  let c0_1504 : Index := 0#32
  ![v4081.toNat, 1, 5, 0, 0]
def k0_off51 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4163 : Index := Scalar.indexCast v9
  let c1_1511 : Index := 1#32
  let c6_1512 : Index := 6#32
  let c0_1513 : Index := 0#32
  let c0_1514 : Index := 0#32
  ![v4163.toNat, 1, 6, 0, 0]
def k0_off52 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4245 : Index := Scalar.indexCast v9
  let c1_1521 : Index := 1#32
  let c7_1522 : Index := 7#32
  let c0_1523 : Index := 0#32
  let c0_1524 : Index := 0#32
  ![v4245.toNat, 1, 7, 0, 0]
def k0_off53 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4327 : Index := Scalar.indexCast v9
  let c1_1531 : Index := 1#32
  let c8_1532 : Index := 8#32
  let c0_1533 : Index := 0#32
  let c0_1534 : Index := 0#32
  ![v4327.toNat, 1, 8, 0, 0]
def k0_off54 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4409 : Index := Scalar.indexCast v9
  let c1_1541 : Index := 1#32
  let c9_1542 : Index := 9#32
  let c0_1543 : Index := 0#32
  let c0_1544 : Index := 0#32
  ![v4409.toNat, 1, 9, 0, 0]
def k0_off55 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4491 : Index := Scalar.indexCast v9
  let c1_1551 : Index := 1#32
  let c10_1552 : Index := 10#32
  let c0_1553 : Index := 0#32
  let c0_1554 : Index := 0#32
  ![v4491.toNat, 1, 10, 0, 0]
def k0_off56 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4573 : Index := Scalar.indexCast v9
  let c1_1561 : Index := 1#32
  let c11_1562 : Index := 11#32
  let c0_1563 : Index := 0#32
  let c0_1564 : Index := 0#32
  ![v4573.toNat, 1, 11, 0, 0]
def k0_off57 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4655 : Index := Scalar.indexCast v9
  let c1_1571 : Index := 1#32
  let c12_1572 : Index := 12#32
  let c0_1573 : Index := 0#32
  let c0_1574 : Index := 0#32
  ![v4655.toNat, 1, 12, 0, 0]
def k0_off58 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4737 : Index := Scalar.indexCast v9
  let c1_1581 : Index := 1#32
  let c13_1582 : Index := 13#32
  let c0_1583 : Index := 0#32
  let c0_1584 : Index := 0#32
  ![v4737.toNat, 1, 13, 0, 0]
def k0_off59 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4819 : Index := Scalar.indexCast v9
  let c1_1591 : Index := 1#32
  let c14_1592 : Index := 14#32
  let c0_1593 : Index := 0#32
  let c0_1594 : Index := 0#32
  ![v4819.toNat, 1, 14, 0, 0]
def k0_off60 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4901 : Index := Scalar.indexCast v9
  let c1_1601 : Index := 1#32
  let c15_1602 : Index := 15#32
  let c0_1603 : Index := 0#32
  let c0_1604 : Index := 0#32
  ![v4901.toNat, 1, 15, 0, 0]
def k0_off61 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4983 : Index := Scalar.indexCast v9
  let c1_1611 : Index := 1#32
  let c16_1612 : Index := 16#32
  let c0_1613 : Index := 0#32
  let c0_1614 : Index := 0#32
  ![v4983.toNat, 1, 16, 0, 0]
def k0_off62 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5065 : Index := Scalar.indexCast v9
  let c1_1621 : Index := 1#32
  let c17_1622 : Index := 17#32
  let c0_1623 : Index := 0#32
  let c0_1624 : Index := 0#32
  ![v5065.toNat, 1, 17, 0, 0]
def k0_off63 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5147 : Index := Scalar.indexCast v9
  let c1_1631 : Index := 1#32
  let c18_1632 : Index := 18#32
  let c0_1633 : Index := 0#32
  let c0_1634 : Index := 0#32
  ![v5147.toNat, 1, 18, 0, 0]
def k0_off64 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5229 : Index := Scalar.indexCast v9
  let c1_1641 : Index := 1#32
  let c19_1642 : Index := 19#32
  let c0_1643 : Index := 0#32
  let c0_1644 : Index := 0#32
  ![v5229.toNat, 1, 19, 0, 0]
def k0_off65 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5311 : Index := Scalar.indexCast v9
  let c1_1651 : Index := 1#32
  let c20_1652 : Index := 20#32
  let c0_1653 : Index := 0#32
  let c0_1654 : Index := 0#32
  ![v5311.toNat, 1, 20, 0, 0]
def k0_off66 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5393 : Index := Scalar.indexCast v9
  let c1_1661 : Index := 1#32
  let c21_1662 : Index := 21#32
  let c0_1663 : Index := 0#32
  let c0_1664 : Index := 0#32
  ![v5393.toNat, 1, 21, 0, 0]
def k0_off67 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5475 : Index := Scalar.indexCast v9
  let c1_1671 : Index := 1#32
  let c22_1672 : Index := 22#32
  let c0_1673 : Index := 0#32
  let c0_1674 : Index := 0#32
  ![v5475.toNat, 1, 22, 0, 0]
def k0_off68 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5557 : Index := Scalar.indexCast v9
  let c1_1681 : Index := 1#32
  let c23_1682 : Index := 23#32
  let c0_1683 : Index := 0#32
  let c0_1684 : Index := 0#32
  ![v5557.toNat, 1, 23, 0, 0]
def k0_off69 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5639 : Index := Scalar.indexCast v9
  let c1_1691 : Index := 1#32
  let c24_1692 : Index := 24#32
  let c0_1693 : Index := 0#32
  let c0_1694 : Index := 0#32
  ![v5639.toNat, 1, 24, 0, 0]
def k0_off70 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5721 : Index := Scalar.indexCast v9
  let c1_1701 : Index := 1#32
  let c25_1702 : Index := 25#32
  let c0_1703 : Index := 0#32
  let c0_1704 : Index := 0#32
  ![v5721.toNat, 1, 25, 0, 0]
def k0_off71 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5803 : Index := Scalar.indexCast v9
  let c1_1711 : Index := 1#32
  let c26_1712 : Index := 26#32
  let c0_1713 : Index := 0#32
  let c0_1714 : Index := 0#32
  ![v5803.toNat, 1, 26, 0, 0]
def k0_off72 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5885 : Index := Scalar.indexCast v9
  let c1_1721 : Index := 1#32
  let c27_1722 : Index := 27#32
  let c0_1723 : Index := 0#32
  let c0_1724 : Index := 0#32
  ![v5885.toNat, 1, 27, 0, 0]
def k0_off73 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5967 : Index := Scalar.indexCast v9
  let c1_1731 : Index := 1#32
  let c28_1732 : Index := 28#32
  let c0_1733 : Index := 0#32
  let c0_1734 : Index := 0#32
  ![v5967.toNat, 1, 28, 0, 0]
def k0_off74 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6049 : Index := Scalar.indexCast v9
  let c1_1741 : Index := 1#32
  let c29_1742 : Index := 29#32
  let c0_1743 : Index := 0#32
  let c0_1744 : Index := 0#32
  ![v6049.toNat, 1, 29, 0, 0]
def k0_off75 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6131 : Index := Scalar.indexCast v9
  let c1_1751 : Index := 1#32
  let c30_1752 : Index := 30#32
  let c0_1753 : Index := 0#32
  let c0_1754 : Index := 0#32
  ![v6131.toNat, 1, 30, 0, 0]
def k0_off76 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6213 : Index := Scalar.indexCast v9
  let c1_1761 : Index := 1#32
  let c31_1762 : Index := 31#32
  let c0_1763 : Index := 0#32
  let c0_1764 : Index := 0#32
  ![v6213.toNat, 1, 31, 0, 0]
def k0_off77 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_1766 : BitVec 32 := 1#32
  ![v9.toNat, 1]
def k0_off78 (i : grid0.Coords) : Fin 4 → Nat :=
  let arg0 : BitVec 32 := BitVec.ofNat 32 (i 0).val
  let c0_i32_1767 : BitVec 32 := 0#32
  let c0_i32_1768 : BitVec 32 := 0#32
  let c128_i32 : BitVec 32 := 128#32
  ![arg0.toNat, 0, 0, 128]
def k0_off79 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_1765 : BitVec 32 := 1#32
  let c0_i32_1769 : BitVec 32 := 0#32
  let c0_i32_1770 : BitVec 32 := 0#32
  let c0_i32_1771 : BitVec 32 := 0#32
  ![v9.toNat, 1, 0, 0, 0]
def k0_off80 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6364 : Index := Scalar.indexCast v9
  let c2_1817 : Index := 2#32
  let c0_1818 : Index := 0#32
  let c0_1819 : Index := 0#32
  let c0_1820 : Index := 0#32
  ![v6364.toNat, 2, 0, 0, 0]
def k0_off81 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6446 : Index := Scalar.indexCast v9
  let c2_1827 : Index := 2#32
  let c1_1828 : Index := 1#32
  let c0_1829 : Index := 0#32
  let c0_1830 : Index := 0#32
  ![v6446.toNat, 2, 1, 0, 0]
def k0_off82 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6528 : Index := Scalar.indexCast v9
  let c2_1837 : Index := 2#32
  let c2_1838 : Index := 2#32
  let c0_1839 : Index := 0#32
  let c0_1840 : Index := 0#32
  ![v6528.toNat, 2, 2, 0, 0]
def k0_off83 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6610 : Index := Scalar.indexCast v9
  let c2_1847 : Index := 2#32
  let c3_1848 : Index := 3#32
  let c0_1849 : Index := 0#32
  let c0_1850 : Index := 0#32
  ![v6610.toNat, 2, 3, 0, 0]
def k0_off84 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6692 : Index := Scalar.indexCast v9
  let c2_1857 : Index := 2#32
  let c4_1858 : Index := 4#32
  let c0_1859 : Index := 0#32
  let c0_1860 : Index := 0#32
  ![v6692.toNat, 2, 4, 0, 0]
def k0_off85 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6774 : Index := Scalar.indexCast v9
  let c2_1867 : Index := 2#32
  let c5_1868 : Index := 5#32
  let c0_1869 : Index := 0#32
  let c0_1870 : Index := 0#32
  ![v6774.toNat, 2, 5, 0, 0]
def k0_off86 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6856 : Index := Scalar.indexCast v9
  let c2_1877 : Index := 2#32
  let c6_1878 : Index := 6#32
  let c0_1879 : Index := 0#32
  let c0_1880 : Index := 0#32
  ![v6856.toNat, 2, 6, 0, 0]
def k0_off87 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6938 : Index := Scalar.indexCast v9
  let c2_1887 : Index := 2#32
  let c7_1888 : Index := 7#32
  let c0_1889 : Index := 0#32
  let c0_1890 : Index := 0#32
  ![v6938.toNat, 2, 7, 0, 0]
def k0_off88 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7020 : Index := Scalar.indexCast v9
  let c2_1897 : Index := 2#32
  let c8_1898 : Index := 8#32
  let c0_1899 : Index := 0#32
  let c0_1900 : Index := 0#32
  ![v7020.toNat, 2, 8, 0, 0]
def k0_off89 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7102 : Index := Scalar.indexCast v9
  let c2_1907 : Index := 2#32
  let c9_1908 : Index := 9#32
  let c0_1909 : Index := 0#32
  let c0_1910 : Index := 0#32
  ![v7102.toNat, 2, 9, 0, 0]
def k0_off90 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7184 : Index := Scalar.indexCast v9
  let c2_1917 : Index := 2#32
  let c10_1918 : Index := 10#32
  let c0_1919 : Index := 0#32
  let c0_1920 : Index := 0#32
  ![v7184.toNat, 2, 10, 0, 0]
def k0_off91 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7266 : Index := Scalar.indexCast v9
  let c2_1927 : Index := 2#32
  let c11_1928 : Index := 11#32
  let c0_1929 : Index := 0#32
  let c0_1930 : Index := 0#32
  ![v7266.toNat, 2, 11, 0, 0]
def k0_off92 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7348 : Index := Scalar.indexCast v9
  let c2_1937 : Index := 2#32
  let c12_1938 : Index := 12#32
  let c0_1939 : Index := 0#32
  let c0_1940 : Index := 0#32
  ![v7348.toNat, 2, 12, 0, 0]
def k0_off93 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7430 : Index := Scalar.indexCast v9
  let c2_1947 : Index := 2#32
  let c13_1948 : Index := 13#32
  let c0_1949 : Index := 0#32
  let c0_1950 : Index := 0#32
  ![v7430.toNat, 2, 13, 0, 0]
def k0_off94 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7512 : Index := Scalar.indexCast v9
  let c2_1957 : Index := 2#32
  let c14_1958 : Index := 14#32
  let c0_1959 : Index := 0#32
  let c0_1960 : Index := 0#32
  ![v7512.toNat, 2, 14, 0, 0]
def k0_off95 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7594 : Index := Scalar.indexCast v9
  let c2_1967 : Index := 2#32
  let c15_1968 : Index := 15#32
  let c0_1969 : Index := 0#32
  let c0_1970 : Index := 0#32
  ![v7594.toNat, 2, 15, 0, 0]
def k0_off96 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7676 : Index := Scalar.indexCast v9
  let c2_1977 : Index := 2#32
  let c16_1978 : Index := 16#32
  let c0_1979 : Index := 0#32
  let c0_1980 : Index := 0#32
  ![v7676.toNat, 2, 16, 0, 0]
def k0_off97 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7758 : Index := Scalar.indexCast v9
  let c2_1987 : Index := 2#32
  let c17_1988 : Index := 17#32
  let c0_1989 : Index := 0#32
  let c0_1990 : Index := 0#32
  ![v7758.toNat, 2, 17, 0, 0]
def k0_off98 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7840 : Index := Scalar.indexCast v9
  let c2_1997 : Index := 2#32
  let c18_1998 : Index := 18#32
  let c0_1999 : Index := 0#32
  let c0_2000 : Index := 0#32
  ![v7840.toNat, 2, 18, 0, 0]
def k0_off99 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7922 : Index := Scalar.indexCast v9
  let c2_2007 : Index := 2#32
  let c19_2008 : Index := 19#32
  let c0_2009 : Index := 0#32
  let c0_2010 : Index := 0#32
  ![v7922.toNat, 2, 19, 0, 0]
def k0_off100 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8004 : Index := Scalar.indexCast v9
  let c2_2017 : Index := 2#32
  let c20_2018 : Index := 20#32
  let c0_2019 : Index := 0#32
  let c0_2020 : Index := 0#32
  ![v8004.toNat, 2, 20, 0, 0]
def k0_off101 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8086 : Index := Scalar.indexCast v9
  let c2_2027 : Index := 2#32
  let c21_2028 : Index := 21#32
  let c0_2029 : Index := 0#32
  let c0_2030 : Index := 0#32
  ![v8086.toNat, 2, 21, 0, 0]
def k0_off102 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8168 : Index := Scalar.indexCast v9
  let c2_2037 : Index := 2#32
  let c22_2038 : Index := 22#32
  let c0_2039 : Index := 0#32
  let c0_2040 : Index := 0#32
  ![v8168.toNat, 2, 22, 0, 0]
def k0_off103 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8250 : Index := Scalar.indexCast v9
  let c2_2047 : Index := 2#32
  let c23_2048 : Index := 23#32
  let c0_2049 : Index := 0#32
  let c0_2050 : Index := 0#32
  ![v8250.toNat, 2, 23, 0, 0]
def k0_off104 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8332 : Index := Scalar.indexCast v9
  let c2_2057 : Index := 2#32
  let c24_2058 : Index := 24#32
  let c0_2059 : Index := 0#32
  let c0_2060 : Index := 0#32
  ![v8332.toNat, 2, 24, 0, 0]
def k0_off105 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8414 : Index := Scalar.indexCast v9
  let c2_2067 : Index := 2#32
  let c25_2068 : Index := 25#32
  let c0_2069 : Index := 0#32
  let c0_2070 : Index := 0#32
  ![v8414.toNat, 2, 25, 0, 0]
def k0_off106 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8496 : Index := Scalar.indexCast v9
  let c2_2077 : Index := 2#32
  let c26_2078 : Index := 26#32
  let c0_2079 : Index := 0#32
  let c0_2080 : Index := 0#32
  ![v8496.toNat, 2, 26, 0, 0]
def k0_off107 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8578 : Index := Scalar.indexCast v9
  let c2_2087 : Index := 2#32
  let c27_2088 : Index := 27#32
  let c0_2089 : Index := 0#32
  let c0_2090 : Index := 0#32
  ![v8578.toNat, 2, 27, 0, 0]
def k0_off108 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8660 : Index := Scalar.indexCast v9
  let c2_2097 : Index := 2#32
  let c28_2098 : Index := 28#32
  let c0_2099 : Index := 0#32
  let c0_2100 : Index := 0#32
  ![v8660.toNat, 2, 28, 0, 0]
def k0_off109 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8742 : Index := Scalar.indexCast v9
  let c2_2107 : Index := 2#32
  let c29_2108 : Index := 29#32
  let c0_2109 : Index := 0#32
  let c0_2110 : Index := 0#32
  ![v8742.toNat, 2, 29, 0, 0]
def k0_off110 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8824 : Index := Scalar.indexCast v9
  let c2_2117 : Index := 2#32
  let c30_2118 : Index := 30#32
  let c0_2119 : Index := 0#32
  let c0_2120 : Index := 0#32
  ![v8824.toNat, 2, 30, 0, 0]
def k0_off111 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8906 : Index := Scalar.indexCast v9
  let c2_2127 : Index := 2#32
  let c31_2128 : Index := 31#32
  let c0_2129 : Index := 0#32
  let c0_2130 : Index := 0#32
  ![v8906.toNat, 2, 31, 0, 0]
def k0_off112 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_2132 : BitVec 32 := 2#32
  ![v9.toNat, 2]
def k0_off113 (i : grid0.Coords) : Fin 4 → Nat :=
  let arg0 : BitVec 32 := BitVec.ofNat 32 (i 0).val
  let c0_i32_2133 : BitVec 32 := 0#32
  let c0_i32_2134 : BitVec 32 := 0#32
  let c256_i32 : BitVec 32 := 256#32
  ![arg0.toNat, 0, 0, 256]
def k0_off114 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_2131 : BitVec 32 := 2#32
  let c0_i32_2135 : BitVec 32 := 0#32
  let c0_i32_2136 : BitVec 32 := 0#32
  let c0_i32_2137 : BitVec 32 := 0#32
  ![v9.toNat, 2, 0, 0, 0]
def k0_cond3 (i : grid0.Coords) : BitVec 1 :=
  let arg0 : BitVec 32 := BitVec.ofNat 32 (i 0).val
  let c11_i32_2138 : BitVec 32 := 11#32
  let v8916 : BitVec 1 := Scalar.cmpi .eq arg0 c11_i32_2138
  let v8917 : BitVec 32 := Scalar.extui v8916
  let c0_i32_2139 : BitVec 32 := 0#32
  let v8918 : BitVec 1 := Scalar.cmpi .ne v8917 c0_i32_2139
  v8918

def k0_off115 (i : grid0.Coords) : Fin 2 → Nat :=
  let c1_i32_2141 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8920 : BitVec 32 := Scalar.subi c1_i32_2141 v9
  let c0_i32_2143 : BitVec 32 := 0#32
  ![v8920.toNat, 0]
def k0_off116 (i : grid0.Coords) : Fin 4 → Nat :=
  let arg0 : BitVec 32 := BitVec.ofNat 32 (i 0).val
  let c1_i32_2140 : BitVec 32 := 1#32
  let v8919 : BitVec 32 := Scalar.subi arg0 c1_i32_2140
  let c0_i32_2144 : BitVec 32 := 0#32
  let c0_i32_2145 : BitVec 32 := 0#32
  let c0_i32_2146 : BitVec 32 := 0#32
  ![v8919.toNat, 0, 0, 0]
def k0_off117 (i : grid0.Coords) : Fin 5 → Nat :=
  let c1_i32_2141 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8920 : BitVec 32 := Scalar.subi c1_i32_2141 v9
  let c0_i32_2142 : BitVec 32 := 0#32
  let c0_i32_2147 : BitVec 32 := 0#32
  let c0_i32_2148 : BitVec 32 := 0#32
  let c0_i32_2149 : BitVec 32 := 0#32
  ![v8920.toNat, 0, 0, 0, 0]
def k0_off118 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_2151 : BitVec 32 := 0#32
  ![v9.toNat, 0]
def k0_off119 (i : grid0.Coords) : Fin 4 → Nat :=
  let arg0 : BitVec 32 := BitVec.ofNat 32 (i 0).val
  let c0_i32_2152 : BitVec 32 := 0#32
  let c0_i32_2153 : BitVec 32 := 0#32
  let c0_i32_2154 : BitVec 32 := 0#32
  ![arg0.toNat, 0, 0, 0]
def k0_off120 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_2150 : BitVec 32 := 0#32
  let c0_i32_2155 : BitVec 32 := 0#32
  let c0_i32_2156 : BitVec 32 := 0#32
  let c0_i32_2157 : BitVec 32 := 0#32
  ![v9.toNat, 0, 0, 0, 0]
def k0_off121 (i : grid0.Coords) : Fin 2 → Nat :=
  let c1_i32_2159 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8934 : BitVec 32 := Scalar.subi c1_i32_2159 v9
  let c1_i32_2161 : BitVec 32 := 1#32
  ![v8934.toNat, 1]
def k0_off122 (i : grid0.Coords) : Fin 4 → Nat :=
  let arg0 : BitVec 32 := BitVec.ofNat 32 (i 0).val
  let c1_i32_2158 : BitVec 32 := 1#32
  let v8933 : BitVec 32 := Scalar.subi arg0 c1_i32_2158
  let c0_i32_2162 : BitVec 32 := 0#32
  let c0_i32_2163 : BitVec 32 := 0#32
  let c128_i32_2164 : BitVec 32 := 128#32
  ![v8933.toNat, 0, 0, 128]
def k0_off123 (i : grid0.Coords) : Fin 5 → Nat :=
  let c1_i32_2159 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8934 : BitVec 32 := Scalar.subi c1_i32_2159 v9
  let c1_i32_2160 : BitVec 32 := 1#32
  let c0_i32_2165 : BitVec 32 := 0#32
  let c0_i32_2166 : BitVec 32 := 0#32
  let c0_i32_2167 : BitVec 32 := 0#32
  ![v8934.toNat, 1, 0, 0, 0]
def k0_off124 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_2169 : BitVec 32 := 1#32
  ![v9.toNat, 1]
def k0_off125 (i : grid0.Coords) : Fin 4 → Nat :=
  let arg0 : BitVec 32 := BitVec.ofNat 32 (i 0).val
  let c0_i32_2170 : BitVec 32 := 0#32
  let c0_i32_2171 : BitVec 32 := 0#32
  let c128_i32_2172 : BitVec 32 := 128#32
  ![arg0.toNat, 0, 0, 128]
def k0_off126 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_2168 : BitVec 32 := 1#32
  let c0_i32_2173 : BitVec 32 := 0#32
  let c0_i32_2174 : BitVec 32 := 0#32
  let c0_i32_2175 : BitVec 32 := 0#32
  ![v9.toNat, 1, 0, 0, 0]
def k0_off127 (i : grid0.Coords) : Fin 2 → Nat :=
  let c1_i32_2177 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8948 : BitVec 32 := Scalar.subi c1_i32_2177 v9
  let c2_i32_2179 : BitVec 32 := 2#32
  ![v8948.toNat, 2]
def k0_off128 (i : grid0.Coords) : Fin 4 → Nat :=
  let arg0 : BitVec 32 := BitVec.ofNat 32 (i 0).val
  let c1_i32_2176 : BitVec 32 := 1#32
  let v8947 : BitVec 32 := Scalar.subi arg0 c1_i32_2176
  let c0_i32_2180 : BitVec 32 := 0#32
  let c0_i32_2181 : BitVec 32 := 0#32
  let c256_i32_2182 : BitVec 32 := 256#32
  ![v8947.toNat, 0, 0, 256]
def k0_off129 (i : grid0.Coords) : Fin 5 → Nat :=
  let c1_i32_2177 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v8948 : BitVec 32 := Scalar.subi c1_i32_2177 v9
  let c2_i32_2178 : BitVec 32 := 2#32
  let c0_i32_2183 : BitVec 32 := 0#32
  let c0_i32_2184 : BitVec 32 := 0#32
  let c0_i32_2185 : BitVec 32 := 0#32
  ![v8948.toNat, 2, 0, 0, 0]
def k0_off130 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_2187 : BitVec 32 := 2#32
  ![v9.toNat, 2]
def k0_off131 (i : grid0.Coords) : Fin 4 → Nat :=
  let arg0 : BitVec 32 := BitVec.ofNat 32 (i 0).val
  let c0_i32_2188 : BitVec 32 := 0#32
  let c0_i32_2189 : BitVec 32 := 0#32
  let c256_i32_2190 : BitVec 32 := 256#32
  ![arg0.toNat, 0, 0, 256]
def k0_off132 (i : grid0.Coords) : Fin 5 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_2186 : BitVec 32 := 2#32
  let c0_i32_2191 : BitVec 32 := 0#32
  let c0_i32_2192 : BitVec 32 := 0#32
  let c0_i32_2193 : BitVec 32 := 0#32
  ![v9.toNat, 2, 0, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x16x32x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x256x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S12x16x32x256 : Shape := ⟨4, ![12, 16, 32, 256]⟩
abbrev S12x16x32 : Shape := ⟨3, ![12, 16, 32]⟩
abbrev S3x3x256x384 : Shape := ⟨4, ![3, 3, 256, 384]⟩
abbrev S2x384 : Shape := ⟨2, ![2, 384]⟩
abbrev S384 : Shape := ⟨1, ![384]⟩
abbrev S12x32x64x384 : Shape := ⟨4, ![12, 32, 64, 384]⟩
abbrev S12x16x32x1 : Shape := ⟨4, ![12, 16, 32, 1]⟩
abbrev S12x16x1x32x256 : Shape := ⟨5, ![12, 16, 1, 32, 256]⟩
abbrev S12x16x2x32x256 : Shape := ⟨5, ![12, 16, 2, 32, 256]⟩
abbrev S12x32x32x256 : Shape := ⟨4, ![12, 32, 32, 256]⟩
abbrev S12x32x32x1x256 : Shape := ⟨5, ![12, 32, 32, 1, 256]⟩
abbrev S12x32x32x2x256 : Shape := ⟨5, ![12, 32, 32, 2, 256]⟩
abbrev S12x32x64x256 : Shape := ⟨4, ![12, 32, 64, 256]⟩
abbrev S2x1x384 : Shape := ⟨3, ![2, 1, 384]⟩
abbrev S2x128x384 : Shape := ⟨3, ![2, 128, 384]⟩
abbrev S256x384 : Shape := ⟨2, ![256, 384]⟩
abbrev S1x1x256x384 : Shape := ⟨4, ![1, 1, 256, 384]⟩
abbrev S12x1x64x256 : Shape := ⟨4, ![12, 1, 64, 256]⟩
abbrev S12x33x64x256 : Shape := ⟨4, ![12, 33, 64, 256]⟩
abbrev S12x34x64x256 : Shape := ⟨4, ![12, 34, 64, 256]⟩
abbrev S12x34x1x256 : Shape := ⟨4, ![12, 34, 1, 256]⟩
abbrev S12x34x65x256 : Shape := ⟨4, ![12, 34, 65, 256]⟩
abbrev S12x34x66x256 : Shape := ⟨4, ![12, 34, 66, 256]⟩
abbrev S24576x384 : Shape := ⟨2, ![24576, 384]⟩
abbrev S24576x256 : Shape := ⟨2, ![24576, 256]⟩
abbrev S1x384 : Shape := ⟨2, ![1, 384]⟩

abbrev nBuf : Space → Nat
  | .hbm => 6
  | .vmem => 6
  | .smem => 0
  | _ => 0

abbrev bufTy : (tb : Table) → Fin (tcTables nBuf tb) → BufTy
  | .hbm, ⟨0, _⟩ => ⟨S12x16x32x256, .fp8e4m3⟩
  | .hbm, ⟨1, _⟩ => ⟨S12x16x32, .f32⟩
  | .hbm, ⟨2, _⟩ => ⟨S3x3x256x384, .fp8e4m3⟩
  | .hbm, ⟨3, _⟩ => ⟨S2x384, .f32⟩
  | .hbm, ⟨4, _⟩ => ⟨S384, .f32⟩
  | .hbm, ⟨5, _⟩ => ⟨S12x32x64x384, .bf16⟩
  | .local _ .vmem, ⟨0, _⟩ => ⟨S12x16x32x256, .fp8e4m3⟩
  | .local _ .vmem, ⟨1, _⟩ => ⟨S12x16x32, .f32⟩
  | .local _ .vmem, ⟨2, _⟩ => ⟨S3x3x256x384, .fp8e4m3⟩
  | .local _ .vmem, ⟨3, _⟩ => ⟨S2x384, .f32⟩
  | .local _ .vmem, ⟨4, _⟩ => ⟨S384, .f32⟩
  | .local _ .vmem, ⟨5, _⟩ => ⟨S12x32x64x384, .bf16⟩
  | _, _ => ⟨S12x16x32x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12x16x32x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x256x384 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x32x64x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Model.lean ====
/-
  The kernel's body as a short structured program. The printed body is the unrolled text; here its loops are loops
  again, in continuation-passing style, so that each loop step is one definition and one lemma.
-/
module

public import proofs.«01_k».proof.Proof.Gen.KernelIdeal
public import Idealize.ShloMosaic.Lib.Pipeline

@[expose] public section

noncomputable section

namespace Cert.KernelIdeal.Hand

open Cert.KernelIdeal
open Idealize.ShloMosaic Idealize.SL.Sem
open Facts₀

variable {F : FTy → Type} [FloatOps F]

/-- The body's buffers: the staged blocks, the result in HBM, the scratch buffers and the two by three semaphores. -/
structure Args where
  x : Memref sig .tc .vmem S1x16x32x256 .fp8e4m3
  hx : x.IsWhole
  xs : Memref sig .tc .vmem S1x16x32 .f32
  hxs : xs.IsWhole
  w9 : Memref sig .tc .vmem S9x256x384 .fp8e4m3
  hw9 : w9.IsWhole
  ws : Memref sig .tc .vmem S2x384 .f32
  hws : ws.IsWhole
  bias : Memref sig .tc .vmem S1x384 .f32
  hbias : bias.IsWhole
  out : Memref sig .tc .hbm S12x32x64x384 .bf16
  hout : out.IsWhole
  wt : Memref sig .tc .vmem S14x256x256 .bf16
  hwt : wt.IsWhole
  xf : Memref sig .tc .vmem S2x16x32x128 .f32
  hxf : xf.IsWhole
  xb : Memref sig .tc .vmem S512x256 .bf16
  hxb : xb.IsWhole
  ob : Memref sig .tc .vmem S2x3x32x64x128 .bf16
  hob : ob.IsWhole
  sem : DmaSems sig S2x3

variable (F) in
/-- Programs of the kernel. -/
abbrev PG := Prog (TpuEff nD τ sig (Elt F) Λ₀ .tc) PUnit

/-- `f 0 (f 1 (… (f (n - 1) k)))`. -/
def loopK {N : ℕ} {α : Type*} (f : Fin N → α → α) : (n : ℕ) → n ≤ N → α → α
  | 0, _, k => k
  | n + 1, h, k => loopK f n (Nat.le_of_succ_le h) (f ⟨n, h⟩ k)

/-! ## The weight tiles -/

/-- Row of the nine kernel taps that tap `t` of the tiles' order reads (centre column first, then left, then right). -/
def tapRow (t : ℕ) : ℕ := 3 * (t % 3) + (if t / 3 = 0 then 1 else if t / 3 = 1 then 0 else 2)
/-- Step `n` of the fill writes tile `n / 4`, half `n / 2 % 2`, contraction block `n % 2`. It takes this tap, -/
def fTap (n : ℕ) : ℕ := if n / 4 < 9 then n / 4 else 2 * (n / 4 - 9) + n / 2 % 2
/-- and this group of output channels. -/
def fGrp (n : ℕ) : ℕ := if n / 4 < 9 then n / 2 % 2 else 2

/-- Offsets of the weight block step `n` loads, -/
def fwOff (n : Fin 54) : Fin 3 → ℕ := ![tapRow (fTap n.val), 128 * (n.val % 2), 128 * fGrp n.val]
/-- of its scales, -/
def fsOff (n : Fin 54) : Fin 2 → ℕ := ![n.val % 2, 128 * fGrp n.val]
/-- and of the tile part it stores. -/
def ftOff (n : Fin 54) : Fin 3 → ℕ := ![n.val / 4, 128 * (n.val % 2), 128 * (n.val / 2 % 2)]

/-- The weights' block a step of the fill reads lies within the weights. -/
theorem fwOff_inb : ∀ (n : Fin 54) (a), fwOff n a + S1x128x128.size a ≤ S9x256x384.size a := by decide +kernel
/-- The scales it reads lie within the scales. -/
theorem fsOff_inb : ∀ (n : Fin 54) (a), fsOff n a + S1x128.size a ≤ S2x384.size a := by decide +kernel
/-- The tile block it writes lies within the tiles, -/
theorem ftOff_inb : ∀ (n : Fin 54) (a), ftOff n a + S1x128x128.size a ≤ S14x256x256.size a := by decide +kernel
/-- and covers whole words of them. -/
theorem ftOff_packed : ∀ n : Fin 54, (Rect.unit (s := S14x256x256) (ftOff n) S1x128x128.size (ftOff_inb n)).PackedRows (EltTy.packing .bf16) := by
  decide +kernel

/-- A dequantised weight block. -/
def tileVal (w : Vec F S1x128x128 .fp8e4m3) (s : Vec F S1x128 .f32) : FVec F S1x128x128 .bf16 :=
  shapeCast S1x128x128 (mulf (extf .bf16 (shapeCast S128x128 w shapeCasts_S1x128x128_S128x128) bitsLt_fp8e4m3_bf16)
    (broadcastTo S128x128 (truncf .bf16 s bitsLt_bf16_f32) broadcasts_S1x128_S128x128)) shapeCasts_S128x128_S1x128x128
/-- The zero half tile. -/
def zeroTile : FVec F S1x256x128 .bf16 :=
  shapeCast S1x256x128 (broadcast S256x128 (Scalar.ofBits .bf16 0x0000#16 : F .bf16)) shapeCasts_S256x128_S1x256x128

variable (A : Args)

/-- One step of the fill. -/
def fillK (n : Fin 54) (k : PG F) : PG F :=
  .op (.load A.w9 (Rect.unit (s := S9x256x384) (fwOff n) S1x128x128.size (fwOff_inb n)).toLoadRect (View.loadsAt_vmem h_S1x128x128)) fun w =>
  .op (.load A.ws (Rect.unit (s := S2x384) (fsOff n) S1x128.size (fsOff_inb n)).toLoadRect (View.loadsAt_vmem h_S1x128)) fun s =>
  .op (.load A.wt (Rect.unit (s := S14x256x256) (ftOff n) S1x128x128.size (ftOff_inb n)).toLoadRect (View.loadsAt_vmem h_S1x128x128)) fun _ =>
  .op (.store A.wt (Rect.unit (s := S14x256x256) (ftOff n) S1x128x128.size (ftOff_inb n)) (tileVal w s) Finset.univ
    (View.stores_vmem h_S1x128x128 (A.hwt.storeExact_slice rfl _ (ftOff_packed n)) (fun _ => rfl)) (.inl rfl)) fun _ => k

/-- The fill's last step: the half tile no tap uses. -/
def zeroK (k : PG F) : PG F :=
  .op (.load A.wt (Rect.unit (s := S14x256x256) ![13, 0, 128] S1x256x128.size inb_S14x256x256_S1x256x128_13_0_128).toLoadRect (View.loadsAt_vmem h_S1x256x128)) fun _ =>
  .op (.store A.wt (Rect.unit (s := S14x256x256) ![13, 0, 128] S1x256x128.size inb_S14x256x256_S1x256x128_13_0_128) zeroTile Finset.univ
    (View.stores_vmem h_S1x256x128 (A.hwt.storeExact_slice rfl _ packedbf16_S14x256x256_S1x256x128_13_0_128) (fun _ => rfl)) (.inl rfl)) fun _ => k

/-! ## The image's rows -/

/-- Offsets of row `i`, channel block `kb`, in the staged image, -/
def xOff (i : Fin 16) (kb : Fin 2) : Fin 4 → ℕ := ![0, i.val, 0, 128 * kb.val]
/-- in the f32 copy, -/
def xfOff (i : Fin 16) (kb : Fin 2) : Fin 4 → ℕ := ![kb.val, i.val, 0, 0]
/-- and in the dot's operand. -/
def xbOff (i : Fin 16) (kb : Fin 2) : Fin 2 → ℕ := ![32 * i.val, 128 * kb.val]

/-- The row block an image step reads lies within the image. -/
theorem xOff_inb : ∀ (i : Fin 16) (kb : Fin 2) (a), xOff i kb a + S1x1x32x128.size a ≤ S1x16x32x256.size a := by decide +kernel
/-- The block of the exact copy lies within it. -/
theorem xfOff_inb : ∀ (i : Fin 16) (kb : Fin 2) (a), xfOff i kb a + S1x1x32x128.size a ≤ S2x16x32x128.size a := by decide +kernel
/-- The block of the rounded copy lies within it, -/
theorem xbOff_inb : ∀ (i : Fin 16) (kb : Fin 2) (a), xbOff i kb a + S32x128.size a ≤ S512x256.size a := by decide +kernel
/-- and covers whole words of it. -/
theorem xbOff_packed : ∀ (i : Fin 16) (kb : Fin 2), (Rect.unit (s := S512x256) (xbOff i kb) S32x128.size (xbOff_inb i kb)).PackedRows (EltTy.packing .bf16) := by
  decide +kernel
/-- One row's scales are a column of the transposed scales. -/
theorem rowSlices : ∀ i : Fin 16, S32x16.Slices ![0, i.val] S32x1 := by decide +kernel
/-- Every fourth pixel from pixel `t`, eight of them, lies within the row. -/
theorem qOff_inb : ∀ (t : Fin 4) (a), S8x128.size a = 0 ∨ (![t.val, 0] : Fin 2 → ℕ) a + (![4, 1] : Fin 2 → ℕ) a * (S8x128.size a - 1) < S32x128.size a := by
  decide +kernel

/-- The image's scales, a column a row of the image. -/
def scales (xs : Vec F S1x16x32 .f32) : FVec F S32x16 .f32 :=
  transpose S32x16 [1, 0] (shapeCast S16x32 xs shapeCasts_S1x16x32_S16x32) transposes_S16x32_p1_0_S32x16
/-- Row `i`'s scales, over the lanes. -/
def rowScale (v : FVec F S32x16 .f32) (i : Fin 16) : FVec F S32x128 .f32 :=
  broadcastTo S32x128 (shapeCast S32x1 (extractStridedSlice S32x1 ![0, i.val] v (rowSlices i)) shapeCasts_S32x1_S32x1) broadcasts_S32x1_S32x128
/-- A dequantised row. -/
def prepVal (v : FVec F S32x128 .f32) (x : Vec F S1x1x32x128 .fp8e4m3) : FVec F S1x1x32x128 .f32 :=
  shapeCast S1x1x32x128 (mulf (extf .f32 (shapeCast S32x128 x shapeCasts_S1x1x32x128_S32x128) bitsLt_fp8e4m3_f32) v) shapeCasts_S32x128_S1x1x32x128
/-- A row's pixels in the order of residues modulo four, rounded. -/
def xbVal (a b c d : Vec F S8x128 .f32) : FVec F S32x128 .bf16 :=
  shapeCast S32x128 (truncf .bf16 (concatenate S32x128 0 [⟨S8x128, a⟩, ⟨S8x128, b⟩, ⟨S8x128, c⟩, ⟨S8x128, d⟩]
    concatenates_S8x128_S8x128_S8x128_S8x128_S32x128_d0) bitsLt_bf16_f32) shapeCasts_S32x128_S32x128

/-- Row `i`, block `kb`: dequantised into the f32 copy. -/
def xfK (v : FVec F S32x128 .f32) (i : Fin 16) (kb : Fin 2) (k : PG F) : PG F :=
  .op (.load A.x (Rect.unit (s := S1x16x32x256) (xOff i kb) S1x1x32x128.size (xOff_inb i kb)).toLoadRect (View.loadsAt_vmem h_S1x1x32x128)) fun x =>
  .op (.load A.xf (Rect.unit (s := S2x16x32x128) (xfOff i kb) S1x1x32x128.size (xfOff_inb i kb)).toLoadRect (View.loadsAt_vmem h_S1x1x32x128)) fun _ =>
  .op (.store A.xf (Rect.unit (s := S2x16x32x128) (xfOff i kb) S1x1x32x128.size (xfOff_inb i kb)) (prepVal v x) Finset.univ
    (View.stores_vmem_bits_univ h_S1x1x32x128 rfl) (.inl rfl)) fun _ => k

/-- One row of the f32 copy. -/
abbrev xfRow (i : Fin 16) (kb : Fin 2) : Memref sig .tc .vmem S32x128 .f32 :=
  (A.xf.slice (Rect.unit (s := S2x16x32x128) (xfOff i kb) S1x1x32x128.size (xfOff_inb i kb)) (fun _ => rfl)).squeeze S32x128 squeezes_S1x1x32x128_S32x128
/-- Every fourth pixel of a row, from pixel `t`. -/
abbrev qRect (t : Fin 4) : LoadRect S32x128 := ⟨![t.val, 0], S8x128.size, ![4, 1], qOff_inb t⟩

/-- Row `i`, block `kb`: read back by residues and stored as rows of the dot's operand. -/
def xbK (i : Fin 16) (kb : Fin 2) (k : PG F) : PG F :=
  .op (.load (xfRow A i kb) (qRect 0) (View.loadsAt_vmem h_S8x128)) fun a =>
  .op (.load (xfRow A i kb) (qRect 1) (View.loadsAt_vmem h_S8x128)) fun b =>
  .op (.load (xfRow A i kb) (qRect 2) (View.loadsAt_vmem h_S8x128)) fun c =>
  .op (.load (xfRow A i kb) (qRect 3) (View.loadsAt_vmem h_S8x128)) fun d =>
  .op (.load A.xb (Rect.unit (s := S512x256) (xbOff i kb) S32x128.size (xbOff_inb i kb)).toLoadRect (View.loadsAt_vmem h_S32x128)) fun _ =>
  .op (.store A.xb (Rect.unit (s := S512x256) (xbOff i kb) S32x128.size (xbOff_inb i kb)) (xbVal a b c d) Finset.univ
    (View.stores_vmem h_S32x128 (A.hxb.storeExact_slice rfl _ (xbOff_packed i kb)) (fun _ => rfl)) (.inl rfl)) fun _ => k

/-- One row of the image. -/
def prepK (v : FVec F S32x16 .f32) (i : Fin 16) (k : PG F) : PG F :=
  xfK A (rowScale v i) i 0 (xfK A (rowScale v i) i 1 (xbK A i 0 (xbK A i 1 k)))

/-! ## Slots, pieces and semaphores -/

/-- A slot's and group's semaphore lies within the semaphores. -/
theorem semOff_inb : ∀ (s : Fin 2) (g : Fin 3) (a), (![s.val, g.val] : Fin 2 → ℕ) a + S1x1.size a ≤ S2x3.size a := by decide +kernel
/-- A slot's and group's tile lies within the output buffer. -/
theorem tileOff_inb : ∀ (s : Fin 2) (g : Fin 3) (a), (![s.val, g.val, 0, 0, 0] : Fin 5 → ℕ) a + S1x1x32x64x128.size a ≤ S2x3x32x64x128.size a := by
  decide +kernel
/-- An image's channel group lies within the result. -/
theorem pieceOff_inb : ∀ (b : Fin 12) (g : Fin 3) (a), (![b.val, 0, 0, 128 * g.val] : Fin 4 → ℕ) a + S1x32x64x128.size a ≤ S12x32x64x384.size a := by
  decide +kernel
/-- The tile covers whole words of the buffer. -/
theorem tileOff_words : ∀ (s : Fin 2) (g : Fin 3),
    (Rect.unit (s := S2x3x32x64x128) ![s.val, g.val, 0, 0, 0] S1x1x32x64x128.size (tileOff_inb s g)).WholeWords (EltTy.packing .bf16) := by decide +kernel
/-- The channel group covers whole words of the result. -/
theorem pieceOff_words : ∀ (b : Fin 12) (g : Fin 3),
    (Rect.unit (s := S12x32x64x384) ![b.val, 0, 0, 128 * g.val] S1x32x64x128.size (pieceOff_inb b g)).WholeWords (EltTy.packing .bf16) := by decide +kernel

/-- Slot `s`'s semaphore for channel group `g`, -/
abbrev cell (s : Fin 2) (g : Fin 3) : DmaSems sig S_ :=
  (A.sem.slice (Rect.unit (s := S2x3) ![s.val, g.val] S1x1.size (semOff_inb s g))).squeeze S_ squeezes_S1x1_S_
/-- its output tile, -/
abbrev tile (s : Fin 2) (g : Fin 3) : Memref sig .tc .vmem S32x64x128 .bf16 :=
  (A.ob.slice (Rect.unit (s := S2x3x32x64x128) ![s.val, g.val, 0, 0, 0] S1x1x32x64x128.size (tileOff_inb s g)) (fun _ => rfl)).squeeze S32x64x128
    squeezes_S1x1x32x64x128_S32x64x128
/-- and image `b`'s channel group `g` in the result. -/
abbrev piece (b : Fin 12) (g : Fin 3) : Memref sig .tc .hbm S32x64x128 .bf16 :=
  (A.out.slice (Rect.unit (s := S12x32x64x384) ![b.val, 0, 0, 128 * g.val] S1x32x64x128.size (pieceOff_inb b g)) (fun _ => rfl)).squeeze S32x64x128
    squeezes_S1x32x64x128_S32x64x128

/-- So the tile is copied word by word, -/
theorem tile_exact (s : Fin 2) (g : Fin 3) : (tile A s g).view.WordExact :=
  (A.hob.wordExact_slice rfl _ (tileOff_words s g)).reshape _ _
/-- and so is the channel group. -/
theorem piece_exact (b : Fin 12) (g : Fin 3) : (piece A b g).view.WordExact :=
  (A.hout.wordExact_slice rfl _ (pieceOff_words b g)).reshape _ _

/-- Waits for the copy of slot `s`'s tile `g` into image `b`. -/
def waitK (s : Fin 2) (b : Fin 12) (g : Fin 3) (k : PG F) : PG F :=
  .op (.waitDma2 (cell A s g).sem (tile A s g) (piece A b g) (tile_exact A s g) (piece_exact A b g)) fun _ => k
/-- Starts that copy. -/
def sendK (s : Fin 2) (b : Fin 12) (g : Fin 3) (k : PG F) : PG F :=
  .op (.enqueueDma (tile A s g) (.here (piece A b g)) (.dma (cell A s g).sem) (tile_exact A s g) (piece_exact A b g) ⟨Or.inl rfl, trivial⟩) fun _ => k

/-! ## One group of output channels -/

/-- Tile of tap `t` for group `g`, and its half. -/
def gTile (g : Fin 3) (t : Fin 9) : ℕ := if g.val < 2 then t.val else 9 + t.val / 2
/-- The half of the tile that holds a group's tap, -/
def gHalf (g : Fin 3) (t : Fin 9) : ℕ := if g.val < 2 then g.val else t.val % 2
/-- where that half starts, -/
def gOff (g : Fin 3) (t : Fin 9) : Fin 3 → ℕ := ![gTile g t, 0, 128 * gHalf g t]
/-- where the group's bias starts, -/
def bOff (g : Fin 3) : Fin 2 → ℕ := ![0, 128 * g.val]
/-- and where its output row starts. -/
def rOff (s : Fin 2) (g : Fin 3) (r : Fin 32) : Fin 5 → ℕ := ![s.val, g.val, r.val, 0, 0]

/-- The half tile lies within the tiles. -/
theorem gOff_inb : ∀ (g : Fin 3) (t : Fin 9) (a), gOff g t a + S1x256x128.size a ≤ S14x256x256.size a := by decide +kernel
/-- The group's bias lies within the bias. -/
theorem bOff_inb : ∀ (g : Fin 3) (a), bOff g a + S1x128.size a ≤ S1x384.size a := by decide +kernel
/-- The output row lies within the output buffer, -/
theorem rOff_inb : ∀ (s : Fin 2) (g : Fin 3) (r : Fin 32) (a), rOff s g r a + S1x1x1x64x128.size a ≤ S2x3x32x64x128.size a := by decide +kernel
/-- and covers whole words of it. -/
theorem rOff_packed : ∀ (s : Fin 2) (g : Fin 3) (r : Fin 32),
    (Rect.unit (s := S2x3x32x64x128) (rOff s g r) S1x1x1x64x128.size (rOff_inb s g r)).PackedRows (EltTy.packing .bf16) := by decide +kernel
/-- One row of a dot is a slice of it. -/
theorem imgSlices : ∀ i : Fin 16, S16x32x128.Slices ![i.val, 0, 0] S1x32x128 := by decide +kernel

/-- The dot of the image with one tap's weights. -/
def dotP (x : Vec F S512x256 .bf16) (w : Vec F S1x256x128 .bf16) : FVec F S16x32x128 .f32 :=
  shapeCast S16x32x128 (matmul dot_S512x256_S256x128_S512x128_1_0_0_1_n_n none x (shapeCast S256x128 w shapeCasts_S1x256x128_S256x128)
    (constant S512x128 .f32 0x00000000#32)) shapeCasts_S512x128_S16x32x128
/-- A zero row. -/
def zeroRow : FVec F S1x32x128 .f32 := broadcast S1x32x128 (Scalar.ofBits .f32 0x00000000#32 : F .f32)
/-- The three row taps of an even output row: the row above through the first tap, the row itself through the others; -/
def vEven (a b c : FVec F S16x32x128 .f32) : FVec F S16x32x128 .f32 :=
  addf (concatenate S16x32x128 0 [⟨S1x32x128, zeroRow⟩, ⟨S15x32x128, extractStridedSlice S15x32x128 ![0, 0, 0] a slices_S16x32x128_o0_0_0_S15x32x128⟩]
    concatenates_S1x32x128_S15x32x128_S16x32x128_d0) (addf b c)
/-- of an odd one: the row itself through the first two, the row below through the last. -/
def vOdd (a b c : FVec F S16x32x128 .f32) : FVec F S16x32x128 .f32 :=
  addf (addf a b) (concatenate S16x32x128 0 [⟨S15x32x128, extractStridedSlice S15x32x128 ![1, 0, 0] c slices_S16x32x128_o1_0_0_S15x32x128⟩, ⟨S1x32x128, zeroRow⟩]
    concatenates_S15x32x128_S1x32x128_S16x32x128_d0)

/-- The sublane numbers. -/
def lanes : IVec S8x128 32 := iota .tc S8x128 32 [0] iota_S8x128_d0_w32
/-- Row `i` of an image. -/
def imgRow (v : FVec F S16x32x128 .f32) (i : Fin 16) : FVec F S32x128 .f32 :=
  shapeCast S32x128 (extractStridedSlice S1x32x128 ![i.val, 0, 0] v (imgSlices i)) shapeCasts_S1x32x128_S32x128
/-- Pixels of residue 3, one place on, with a zero first. -/
def prevOf (l : FVec F S32x128 .f32) : FVec F S8x128 .f32 :=
  select (cmpi .eq lanes (broadcast S8x128 (0#32 : BitVec 32))) (broadcast S8x128 (Scalar.ofBits .f32 0x00000000#32 : F .f32))
    (dynamicRotate 0 (1#32 : BitVec 32) none (extractStridedSlice S8x128 ![24, 0] l slices_S32x128_o24_0_S8x128) rotates_S8x128_d0)
/-- Pixels of residue 0, one place back, with a zero last. -/
def nextOf (r : FVec F S32x128 .f32) : FVec F S8x128 .f32 :=
  select (cmpi .eq lanes (broadcast S8x128 (7#32 : BitVec 32))) (broadcast S8x128 (Scalar.ofBits .f32 0x00000000#32 : F .f32))
    (dynamicRotate 0 (7#32 : BitVec 32) none (extractStridedSlice S8x128 ![0, 0] r slices_S32x128_o0_0_S8x128) rotates_S8x128_d0)
/-- The first eight pixels of a row, -/
def s0 (v : FVec F S32x128 .f32) : FVec F S8x128 .f32 := extractStridedSlice S8x128 ![0, 0] v slices_S32x128_o0_0_S8x128
/-- the second eight, -/
def s1 (v : FVec F S32x128 .f32) : FVec F S8x128 .f32 := extractStridedSlice S8x128 ![8, 0] v slices_S32x128_o8_0_S8x128
/-- the third eight, -/
def s2 (v : FVec F S32x128 .f32) : FVec F S8x128 .f32 := extractStridedSlice S8x128 ![16, 0] v slices_S32x128_o16_0_S8x128
/-- and the last eight. -/
def s3 (v : FVec F S32x128 .f32) : FVec F S8x128 .f32 := extractStridedSlice S8x128 ![24, 0] v slices_S32x128_o24_0_S8x128
/-- Centre pixels with the bias. -/
def midOf (m : FVec F S8x128 .f32) (b : FVec F S1x128 .f32) : FVec F S8x128 .f32 := addf m (broadcastTo S8x128 b broadcasts_S1x128_S8x128)
/-- The even output pixel: left neighbour, centre, right tap of the pixel itself; -/
def pEven (l m r : FVec F S8x128 .f32) : FVec F S8x1x128 .bf16 :=
  shapeCast S8x1x128 (truncf .bf16 (addf l (addf m r)) bitsLt_bf16_f32) shapeCasts_S8x128_S8x1x128
/-- the odd one: left tap of the pixel itself, centre, right neighbour. -/
def pOdd (l m r : FVec F S8x128 .f32) : FVec F S8x1x128 .bf16 :=
  shapeCast S8x1x128 (truncf .bf16 (addf (addf l m) r) bitsLt_bf16_f32) shapeCasts_S8x128_S8x1x128

/-- One output row of 64 pixels, from rows of the three column taps. -/
def rowOf (b : FVec F S1x128 .f32) (l m r : FVec F S32x128 .f32) : FVec F S1x1x1x64x128 .bf16 :=
  shapeCast S1x1x1x64x128 (shapeCast S64x128 (concatenate S8x8x128 1
    [⟨S8x1x128, pEven (prevOf l) (midOf (s0 m) b) (s0 r)⟩, ⟨S8x1x128, pOdd (s0 l) (midOf (s0 m) b) (s1 r)⟩,
     ⟨S8x1x128, pEven (s0 l) (midOf (s1 m) b) (s1 r)⟩, ⟨S8x1x128, pOdd (s1 l) (midOf (s1 m) b) (s2 r)⟩,
     ⟨S8x1x128, pEven (s1 l) (midOf (s2 m) b) (s2 r)⟩, ⟨S8x1x128, pOdd (s2 l) (midOf (s2 m) b) (s3 r)⟩,
     ⟨S8x1x128, pEven (s2 l) (midOf (s3 m) b) (s3 r)⟩, ⟨S8x1x128, pOdd (s3 l) (midOf (s3 m) b) (nextOf r)⟩]
    concatenates_S8x1x128_S8x1x128_S8x1x128_S8x1x128_S8x1x128_S8x1x128_S8x1x128_S8x1x128_S8x8x128_d1) shapeCasts_S8x8x128_S64x128)
    shapeCasts_S64x128_S1x1x1x64x128

/-- Output row `2 i + py` from the nine taps' dots. -/
def rowVal (b : FVec F S1x128 .f32) (p : Fin 9 → FVec F S16x32x128 .f32) (i : Fin 16) (py : Fin 2) : FVec F S1x1x1x64x128 .bf16 :=
  if py.val = 0 then
    rowOf b (imgRow (vEven (p 3) (p 4) (p 5)) i) (imgRow (vEven (p 0) (p 1) (p 2)) i) (imgRow (vEven (p 6) (p 7) (p 8)) i)
  else
    rowOf b (imgRow (vOdd (p 3) (p 4) (p 5)) i) (imgRow (vOdd (p 0) (p 1) (p 2)) i) (imgRow (vOdd (p 6) (p 7) (p 8)) i)

/-- Stores output row `r` of group `g` in slot `s`. -/
def rowK (s : Fin 2) (g : Fin 3) (b : FVec F S1x128 .f32) (p : Fin 9 → FVec F S16x32x128 .f32) (r : Fin 32) (k : PG F) : PG F :=
  .op (.load A.ob (Rect.unit (s := S2x3x32x64x128) (rOff s g r) S1x1x1x64x128.size (rOff_inb s g r)).toLoadRect (View.loadsAt_vmem h_S1x1x1x64x128)) fun _ =>
  .op (.store A.ob (Rect.unit (s := S2x3x32x64x128) (rOff s g r) S1x1x1x64x128.size (rOff_inb s g r))
    (rowVal b p ⟨r.val / 2, by omega⟩ ⟨r.val % 2, by omega⟩) Finset.univ
    (View.stores_vmem h_S1x1x1x64x128 (A.hob.storeExact_slice rfl _ (rOff_packed s g r)) (fun _ => rfl)) (.inl rfl)) fun _ => k

/-- Loads one tap's weights. -/
def tapK (g : Fin 3) (t : Fin 9) (k : Vec F S1x256x128 .bf16 → PG F) : PG F :=
  .op (.load A.wt (Rect.unit (s := S14x256x256) (gOff g t) S1x256x128.size (gOff_inb g t)).toLoadRect (View.loadsAt_vmem h_S1x256x128)) k

/-- One group of output channels: nine dots, 32 rows, the copy out. -/
def groupK (s : Fin 2) (b : Fin 12) (x : Vec F S512x256 .bf16) (g : Fin 3) (k : PG F) : PG F :=
  tapK A g 0 fun w0 => tapK A g 1 fun w1 => tapK A g 2 fun w2 => tapK A g 3 fun w3 => tapK A g 4 fun w4 =>
  tapK A g 5 fun w5 => tapK A g 6 fun w6 => tapK A g 7 fun w7 => tapK A g 8 fun w8 =>
  .op (.load A.bias (Rect.unit (s := S1x384) (bOff g) S1x128.size (bOff_inb g)).toLoadRect (View.loadsAt_vmem h_S1x128)) fun bi =>
  loopK (rowK A s g (shapeCast S1x128 bi shapeCasts_S1x128_S1x128)
    ![dotP x w0, dotP x w1, dotP x w2, dotP x w3, dotP x w4, dotP x w5, dotP x w6, dotP x w7, dotP x w8]) 32 le_rfl
    (sendK A s b g k)

/-! ## The body -/

/-- The step's word, -/
def argW (i : grid0.Coords) : BitVec 32 := BitVec.ofNat 32 (i 0).val
/-- its slot's, -/
def slotW (i : grid0.Coords) : BitVec 32 :=
  let v1 : BitVec 32 := Scalar.select (Scalar.cmpi .eq (2#32 : BitVec 32) 0#32) 1#32 2#32
  let v2 : BitVec 32 := Scalar.remsi (argW i) v1
  Scalar.select (Scalar.andi (Scalar.xori (Scalar.cmpi .slt v2 0#32) (Scalar.cmpi .slt v1 0#32)) (Scalar.cmpi .ne v2 0#32)) (Scalar.addi v2 v1) v2
/-- and the condition of the fill, as the kernel computes it. -/
def cond1 (i : grid0.Coords) : BitVec 1 := Scalar.cmpi .ne (Scalar.extui (Scalar.cmpi .eq (argW i) 0#32) : BitVec 32) 0#32

/-- The slot a step fills is one of two, -/
theorem slotW_lt : ∀ i : grid0.Coords, (slotW i).toNat < 2 := by decide +kernel
/-- and so is the other slot. -/
theorem slotW'_lt : ∀ i : grid0.Coords, (Scalar.subi 1#32 (slotW i)).toNat < 2 := by decide +kernel
/-- The step's image is one of twelve, -/
theorem argW_lt : ∀ i : grid0.Coords, (argW i).toNat < 12 := by decide +kernel
/-- so is the image two steps back, where it is asked for, -/
theorem argW2_lt : ∀ i : grid0.Coords, k0_cond2 i = 1#1 → (Scalar.subi (argW i) 2#32).toNat < 12 := by decide +kernel
/-- and the image one step back, where it is asked for. -/
theorem argW1_lt : ∀ i : grid0.Coords, k0_cond3 i = 1#1 → (Scalar.subi (argW i) 1#32).toNat < 12 := by decide +kernel

/-- This step's slot, the other slot, -/
def slotF (i : grid0.Coords) : Fin 2 := ⟨(slotW i).toNat, slotW_lt i⟩
/-- The other slot. -/
def slotF' (i : grid0.Coords) : Fin 2 := ⟨(Scalar.subi 1#32 (slotW i)).toNat, slotW'_lt i⟩
/-- this step's image, the one two steps before, the one before. -/
def imgF (i : grid0.Coords) : Fin 12 := ⟨(argW i).toNat, argW_lt i⟩
/-- The image two steps back. -/
def imgF2 (i : grid0.Coords) (h : k0_cond2 i = 1#1) : Fin 12 := ⟨(Scalar.subi (argW i) 2#32).toNat, argW2_lt i h⟩
/-- The image one step back. -/
def imgF1 (i : grid0.Coords) (h : k0_cond3 i = 1#1) : Fin 12 := ⟨(Scalar.subi (argW i) 1#32).toNat, argW1_lt i h⟩

/-- The last step's waits for everything in flight. -/
def drainK (i : grid0.Coords) (k : PG F) : PG F :=
  if h : k0_cond3 i = 1#1 then
    waitK A (slotF' i) (imgF1 i h) 0 (waitK A (slotF i) (imgF i) 0 (waitK A (slotF' i) (imgF1 i h) 1 (waitK A (slotF i) (imgF i) 1
      (waitK A (slotF' i) (imgF1 i h) 2 (waitK A (slotF i) (imgF i) 2 k)))))
  else k
/-- The three groups. -/
def groupsK (i : grid0.Coords) (k : PG F) : PG F :=
  .op (.load A.xb (Rect.unit (s := S512x256) ![0, 0] S512x256.size inb_S512x256_S512x256_0_0).toLoadRect (View.loadsAt_vmem h_S512x256)) fun x =>
  groupK A (slotF i) (imgF i) x 0 (groupK A (slotF i) (imgF i) x 1 (groupK A (slotF i) (imgF i) x 2 k))
/-- The wait for the copies two steps before. -/
def recallK (i : grid0.Coords) (k : PG F) : PG F :=
  if h : k0_cond2 i = 1#1 then
    waitK A (slotF i) (imgF2 i h) 0 (waitK A (slotF i) (imgF2 i h) 1 (waitK A (slotF i) (imgF2 i h) 2 k))
  else k
/-- The image's rows. -/
def rowsK (k : PG F) : PG F :=
  .op (.load A.xs (Rect.unit (s := S1x16x32) ![0, 0, 0] S1x16x32.size inb_S1x16x32_S1x16x32_0_0_0).toLoadRect (View.loadsAt_vmem h_S1x16x32)) fun xs =>
  loopK (prepK A (scales xs)) 16 le_rfl k
/-- The fill, at the first step. -/
def fillsK (i : grid0.Coords) (k : PG F) : PG F :=
  if cond1 i = 1#1 then loopK (fillK A) 54 le_rfl (zeroK A k) else k

/-- The body. -/
def model (i : grid0.Coords) : PG F :=
  fillsK A i (rowsK A (recallK A i (groupsK A i (drainK A i (.ret ⟨⟩)))))

end Cert.KernelIdeal.Hand

end
-- ==== Proof.Rules.lean ====
/-
  Loads, stores and local copies of the kernel, by values: a memref held at the values `X` (`owns`) is read at a window
  of `X` and left, by a store, with the payload over that window. Then the loop rule for `loopK`.
-/
module

public import proofs.«01_k».proof.Proof.Model
public import Idealize.ShloMosaic.Lib.Tactic
public import Idealize.ShloMosaic.Lib.VecWindow
public import Idealize.ShloMosaic.Lib.Transfers
public import Idealize.ShloMosaic.Lib.Pipeline.Routed

@[expose] public section

noncomputable section

namespace Cert.KernelIdeal.Hand

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- The weakest precondition of a kernel program on core `c`. -/
abbrev wpK (c : Dev nD) (p : PG F) (Q : PUnit.{1} → sProp 𝕄) : sProp 𝕄 :=
  wp frame (wpE (defs₀ (F := F)) Variants.none (c : Thread nD τ) none) Set.univ p Q

variable (c : Dev nD)

/-- A load at a unit-stride rectangle reads a window of the values held. -/
theorem own_load {Q : PUnit → sProp 𝕄} {cs : CoreSpace} {s : Shape} {e : EltTy} (m : Memref sig .tc cs s e) {q : PosShare TreeShare} (X : s.Idx → Elt F e)
    {off size : Fin s.rank → ℕ} {inb : ∀ a, off a + size a ≤ s.size a} {hl : m.view.LoadsAt (Rect.unit off size inb).toLoadRect}
    {k : ((Rect.unit off size inb).toLoadRect.shape.Idx → Elt F e) → PG F} :
    (owns (c : Thread nD τ) m q X : sProp 𝕄)
      ⊢ iprop((owns (c : Thread nD τ) m q X -∗ wpK c (k (VecWindow.window X off size inb)) Q)
        -∗ wpK c (.op (.load m (Rect.unit off size inb).toLoadRect hl) k) Q) := by
  unfold owns
  iintro ⟨%f, %hf, H⟩ Hk
  iapply (wp_load (c := (c : Thread nD τ)) (defs := defs₀ (F := F)) Variants.none none Set.univ (m := m) (hl := hl) (k := k) (q := q) (f := f) (S := m.view.set)
    (View.setOn_subset_set _ _)) $$ H
  iintro H
  rw [View.readAt_unit m.view f inb rfl inb, hf]
  iapply Hk
  iexists f
  isplitr; · ipureintro; exact hf
  iexact H

/-- A load at any rectangle reads the values held at its indices. -/
theorem own_loadAt {Q : PUnit → sProp 𝕄} {cs : CoreSpace} {s : Shape} {e : EltTy} (m : Memref sig .tc cs s e) {q : PosShare TreeShare} (X : s.Idx → Elt F e)
    {r : LoadRect s} {hl : m.view.LoadsAt r} {k : (r.shape.Idx → Elt F e) → PG F} :
    (owns (c : Thread nD τ) m q X : sProp 𝕄)
      ⊢ iprop((owns (c : Thread nD τ) m q X -∗ wpK c (k (fun y => X (r.idx y))) Q)
        -∗ wpK c (.op (.load m r hl) k) Q) := by
  unfold owns
  iintro ⟨%f, %hf, H⟩ Hk
  iapply (wp_load (c := (c : Thread nD τ)) (defs := defs₀ (F := F)) Variants.none none Set.univ (m := m) (hl := hl) (k := k) (q := q) (f := f) (S := m.view.set)
    (View.setOn_subset_set _ _)) $$ H
  iintro H
  rw [show m.view.readAt (Elt F) r f = fun y => X (r.idx y) from by rw [← hf]; rfl]
  iapply Hk
  iexists f
  isplitr; · ipureintro; exact hf
  iexact H

/-- The values a squeezed slice reads, of the whole's. -/
def sliceOf {α : Type} {s s' : Shape} (X : s.Idx → α) (off size : Fin s.rank → ℕ) (inb : ∀ a, off a + size a ≤ s.size a)
    (hq : (Rect.unit off size inb).shape.Squeezes s') : s'.Idx → α :=
  fun y => VecWindow.window X off size inb (Shape.reshapeEquiv hq.numel_eq y)

/-- A load through a squeezed slice of a memref held whole. -/
theorem own_loadSlice {Q : PUnit → sProp 𝕄} {cs : CoreSpace} {s s' : Shape} {e : EltTy} (m : Memref sig .tc cs s e) {q : PosShare TreeShare} (X : s.Idx → Elt F e)
    {off size : Fin s.rank → ℕ} {inb : ∀ a, off a + size a ≤ s.size a} {hq : (Rect.unit off size inb).shape.Squeezes s'}
    {r : LoadRect s'} {hl : ((m.slice (Rect.unit off size inb) (fun _ => rfl)).squeeze s' hq).view.LoadsAt r} {k : (r.shape.Idx → Elt F e) → PG F} :
    (owns (c : Thread nD τ) m q X : sProp 𝕄)
      ⊢ iprop((owns (c : Thread nD τ) m q X -∗ wpK c (k (fun y => sliceOf X off size inb hq (r.idx y))) Q)
        -∗ wpK c (.op (.load ((m.slice (Rect.unit off size inb) (fun _ => rfl)).squeeze s' hq) r hl) k) Q) := by
  unfold owns
  iintro ⟨%f, %hf, H⟩ Hk
  iapply (wp_load (c := (c : Thread nD τ)) (defs := defs₀ (F := F)) Variants.none none Set.univ
    (m := (m.slice (Rect.unit off size inb) (fun _ => rfl)).squeeze s' hq) (hl := hl) (k := k) (q := q) (f := f) (S := m.view.set)
    ((View.setOn_subset_set _ _).trans (View.set_reshape_subset _ _ (View.set_slice_subset _ _)))) $$ H
  iintro H
  rw [show ((m.slice (Rect.unit off size inb) (fun _ => rfl)).squeeze s' hq).view.readAt (Elt F) r f = fun y => sliceOf X off size inb hq (r.idx y) from by
    rw [← hf]; rfl]
  iapply Hk
  iexists f
  isplitr; · ipureintro; exact hf
  iexact H

/-- A load nobody uses, of any elements that cover what it reads. -/
theorem dead_load {Q : PUnit → sProp 𝕄} {cs : CoreSpace} {s : Shape} {e : EltTy} (m : Memref sig .tc cs s e) {q : PosShare TreeShare} {S : Finset (Idx (m.view.loc (c : Thread nD τ)))}
    {f : Buf (Elt F) (m.view.loc (c : Thread nD τ))} {r : LoadRect s} (hS : m.view.setOn r.set ⊆ S) {hl : m.view.LoadsAt r} {k : PG F} :
    (m.view.loc (c : Thread nD τ) ↦[S]{q} f : sProp 𝕄)
      ⊢ iprop(((m.view.loc (c : Thread nD τ) ↦[S]{q} f) -∗ wpK c k Q) -∗ wpK c (.op (.load m r hl) fun _ => k) Q) :=
  wp_load (c := (c : Thread nD τ)) (defs := defs₀ (F := F)) Variants.none none Set.univ (m := m) (hl := hl) (k := fun _ => k) (q := q) (f := f) (S := S) hS

/-- A store at a unit-stride rectangle leaves the values with the payload put there. -/
theorem own_store {Q : PUnit → sProp 𝕄} {cs : CoreSpace} {s : Shape} {e : EltTy} (m : Memref sig .tc cs s e) (X : s.Idx → Elt F e)
    {off size : Fin s.rank → ℕ} {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {k : PUnit → PG F} :
    (owns (c : Thread nD τ) m fullShare X : sProp 𝕄)
      ⊢ iprop((owns (c : Thread nD τ) m fullShare (VecWindow.put X off size w) -∗ wpK c (k ⟨⟩) Q)
        -∗ wpK c (.op (.store m (Rect.unit off size inb) w Finset.univ hx hm) k) Q) := by
  unfold owns
  iintro ⟨%f, %hf, H⟩ Hk
  iapply (wp_store_writes₀ (c := (c : Thread nD τ)) (defs := defs₀ (F := F)) Variants.none none Set.univ (m := m) (hx := hx) (hm := hm) (k := k) (f := f) (S := m.view.set)
    (View.set_slice_subset _ _)) $$ H
  iintro H
  iapply Hk
  iexists _
  isplitr
  swap; · iexact H
  ipureintro
  rw [View.read_writes_cons_put m.view f inb w [] rfl, View.writes_nil, hf]

/-- The loop rule: an invariant kept by every step. -/
theorem wp_loopK {Q : PUnit → sProp 𝕄} {N : ℕ} (P : ℕ → sProp 𝕄) (f : Fin N → PG F → PG F)
    (step : ∀ (n : Fin N) (k : PG F), iprop(P n.val ∗ (P (n.val + 1) -∗ wpK c k Q)) ⊢ wpK c (f n k) Q) :
    ∀ (n : ℕ) (h : n ≤ N) (k : PG F), iprop(P 0 ∗ (P n -∗ wpK c k Q)) ⊢ wpK c (loopK f n h k) Q
  | 0, _, k => by
      iintro ⟨H, Hk⟩
      iapply Hk
      iexact H
  | n + 1, h, k => by
      iintro ⟨H, Hk⟩
      iapply (wp_loopK P f step n (Nat.le_of_succ_le h) (f ⟨n, h⟩ k))
      isplitl [H]; · iexact H
      iintro H
      iapply (step ⟨n, h⟩ k)
      isplitl [H] <;> iassumption

end Cert.KernelIdeal.Hand

end
-- ==== Proof.Steps.lean ====
/-
  What the body's steps do to the values held: the fill leaves every tap's tile, the rows leave the dot's operand, a
  group's rows leave the output tile.
-/
module

public import proofs.«01_k».proof.Proof.Rules
public import Idealize.ShloMosaic.Lib.ValueLayout
public import Idealize.ShloMosaic.Lib.Pointwise.Index

@[expose] public section

noncomputable section

namespace Cert.KernelIdeal.Hand

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow (window put)
open Facts₀

variable {F : FTy → Type} [FloatOps F]

local notation "𝕄" => MT nD τ sig Unit (Elt F) ℕ (Pipeline.UC sig nD τ) ℕ

/-! ## Values -/

/-- What step `n` of the fill stores. -/
def fillVal (w9 : Vec F S9x256x384 .fp8e4m3) (ws : Vec F S2x384 .f32) (n : Fin 54) : FVec F S1x128x128 .bf16 :=
  tileVal (window w9 (fwOff n) S1x128x128.size (fwOff_inb n)) (window ws (fsOff n) S1x128.size (fsOff_inb n))

/-- The fill's step that writes contraction block `kb` of tap `t`'s tile for group `g`. -/
def blk (g : Fin 3) (t : Fin 9) (kb : Fin 2) : Fin 54 :=
  ⟨4 * gTile g t + 2 * gHalf g t + kb.val, by revert g t kb; decide +kernel⟩

/-- Tap `t`'s weights for group `g`. -/
def tapW (w9 : Vec F S9x256x384 .fp8e4m3) (ws : Vec F S2x384 .f32) (g : Fin 3) (t : Fin 9) : Vec F S1x256x128 .bf16 := fun y =>
  fillVal w9 ws (blk g t ⟨(y 1).val / 128, by have : (y 1).val < 256 := (y 1).isLt; omega⟩)
    (ValueIdx.ix3 (0 : Fin 1) (⟨(y 1).val % 128, Nat.mod_lt _ (by decide)⟩ : Fin 128) (y 2))

/-- The tiles hold every tap's weights. -/
def IsWT (w9 : Vec F S9x256x384 .fp8e4m3) (ws : Vec F S2x384 .f32) (T : Vec F S14x256x256 .bf16) : Prop :=
  ∀ (g : Fin 3) (t : Fin 9), window T (gOff g t) S1x256x128.size (gOff_inb g t) = tapW w9 ws g t

/-- A dequantised row of the image, -/
def rowF (xs : Vec F S1x16x32 .f32) (x : Vec F S1x16x32x256 .fp8e4m3) (i : Fin 16) (kb : Fin 2) : FVec F S1x1x32x128 .f32 :=
  prepVal (rowScale (scales xs) i) (window x (xOff i kb) S1x1x32x128.size (xOff_inb i kb))
/-- every fourth pixel of it, -/
def rowQ (xs : Vec F S1x16x32 .f32) (x : Vec F S1x16x32x256 .fp8e4m3) (i : Fin 16) (kb : Fin 2) (t : Fin 4) : Vec F S8x128 .f32 := fun z =>
  rowF xs x i kb (ValueIdx.ix4 (0 : Fin 1) (0 : Fin 1) (⟨4 * (z 0).val + t.val, by have : (z 0).val < 8 := (z 0).isLt; omega⟩ : Fin 32) (z 1))
/-- and the row as the dot takes it. -/
def rowB (xs : Vec F S1x16x32 .f32) (x : Vec F S1x16x32x256 .fp8e4m3) (i : Fin 16) (kb : Fin 2) : FVec F S32x128 .bf16 :=
  xbVal (rowQ xs x i kb 0) (rowQ xs x i kb 1) (rowQ xs x i kb 2) (rowQ xs x i kb 3)
/-- The dot's operand. -/
def imgB (xs : Vec F S1x16x32 .f32) (x : Vec F S1x16x32x256 .fp8e4m3) : Vec F S512x256 .bf16 := fun y =>
  rowB xs x ⟨(y 0).val / 32, by have : (y 0).val < 512 := (y 0).isLt; omega⟩ ⟨(y 1).val / 128, by have : (y 1).val < 256 := (y 1).isLt; omega⟩
    (ValueIdx.ix2 (⟨(y 0).val % 32, Nat.mod_lt _ (by decide)⟩ : Fin 32) (⟨(y 1).val % 128, Nat.mod_lt _ (by decide)⟩ : Fin 128))

/-- The bias of a group. -/
def biasOf (b : Vec F S1x384 .f32) (g : Fin 3) : FVec F S1x128 .f32 :=
  shapeCast S1x128 (window b (bOff g) S1x128.size (bOff_inb g)) shapeCasts_S1x128_S1x128
/-- The nine dots of a group. -/
def dotsOf (X : Vec F S512x256 .bf16) (W : Fin 9 → Vec F S1x256x128 .bf16) : Fin 9 → FVec F S16x32x128 .f32 :=
  ![dotP X (W 0), dotP X (W 1), dotP X (W 2), dotP X (W 3), dotP X (W 4), dotP X (W 5), dotP X (W 6), dotP X (W 7), dotP X (W 8)]
/-- Row `r` of a group's output tile. -/
def outRow (b : FVec F S1x128 .f32) (p : Fin 9 → FVec F S16x32x128 .f32) (r : Fin 32) : FVec F S1x1x1x64x128 .bf16 :=
  rowVal b p ⟨r.val / 2, by omega⟩ ⟨r.val % 2, by omega⟩
/-- The output tile. -/
def outTile (b : FVec F S1x128 .f32) (p : Fin 9 → FVec F S16x32x128 .f32) : Vec F S32x64x128 .bf16 := fun y =>
  outRow b p (y 0) (ValueIdx.ix5 (0 : Fin 1) (0 : Fin 1) (0 : Fin 1) (y 1) (y 2))

/-! ## Windows -/

/-- A window reads the whole at the offset index. -/
theorem window_at {α : Type} {s : Shape} (x : s.Idx → α) {off size : Fin s.rank → ℕ} {inb : ∀ a, off a + size a ≤ s.size a}
    (y : (Rect.unit off size inb).shape.Idx) (z : s.Idx) (h : ∀ a, (z a).val = off a + (y a).val) : window x off size inb y = x z :=
  congrArg x (funext fun a => Fin.ext (by show off a + 1 * (y a).val = (z a).val; rw [h]; omega))

/-- Two steps of the fill write apart from each other. -/
theorem ftOff_apart : ∀ n m : Fin 54, n < m → ∃ a, ftOff n a + S1x128x128.size a ≤ ftOff m a ∨ ftOff m a + S1x128x128.size a ≤ ftOff n a := by
  decide +kernel
/-- No step of the fill writes the unused half tile. -/
theorem ftOff_zero : ∀ n : Fin 54, ∃ a, ftOff n a + S1x128x128.size a ≤ (![13, 0, 128] : Fin 3 → ℕ) a ∨ (![13, 0, 128] : Fin 3 → ℕ) a + S1x256x128.size a ≤ ftOff n a := by
  decide +kernel
/-- Two image steps write apart from each other. -/
theorem xbOff_apart : ∀ i j : Fin 16, ∀ kb lb : Fin 2, (i ≠ j ∨ kb ≠ lb) →
    ∃ a, xbOff i kb a + S32x128.size a ≤ xbOff j lb a ∨ xbOff j lb a + S32x128.size a ≤ xbOff i kb a := by
  intro i j kb lb h
  rcases h with h | h
  · refine ⟨0, ?_⟩
    have : i.val ≠ j.val := fun e => h (Fin.ext e)
    show 32 * i.val + 32 ≤ 32 * j.val ∨ 32 * j.val + 32 ≤ 32 * i.val
    omega
  · refine ⟨1, ?_⟩
    have : kb.val ≠ lb.val := fun e => h (Fin.ext e)
    show 128 * kb.val + 128 ≤ 128 * lb.val ∨ 128 * lb.val + 128 ≤ 128 * kb.val
    omega
/-- The half tile of a group's tap is the two blocks that the fill wrote for it. -/
theorem gOff_blk : ∀ (g : Fin 3) (t : Fin 9) (kb : Fin 2), gOff g t 0 = ftOff (blk g t kb) 0 ∧ ftOff (blk g t kb) 1 = 128 * kb.val ∧ gOff g t 1 = 0
    ∧ gOff g t 2 = ftOff (blk g t kb) 2 := by decide +kernel

/-- Tiles that hold what all fifty-four steps store hold every tap's weights. -/
theorem isWT_of_fill {w9 : Vec F S9x256x384 .fp8e4m3} {ws : Vec F S2x384 .f32} {T : Vec F S14x256x256 .bf16}
    (h : ∀ n, window T (ftOff n) S1x128x128.size (ftOff_inb n) = fillVal w9 ws n) : IsWT w9 ws T := by
  intro g t
  funext y
  have h1 : (y 1).val < 256 := (y 1).isLt
  have h0 : (y 0).val < 1 := (y 0).isLt
  obtain ⟨e0, e1, e2, e3⟩ := gOff_blk g t ⟨(y 1).val / 128, by omega⟩
  unfold tapW
  rw [← h]
  refine congrArg T (funext fun a => Fin.ext ?_)
  match a with
  | ⟨0, _⟩ =>
    show gOff g t 0 + 1 * (y 0).val = ftOff (blk g t ⟨(y 1).val / 128, by omega⟩) 0 + 1 * 0
    omega
  | ⟨1, _⟩ =>
    show gOff g t 1 + 1 * (y 1).val = ftOff (blk g t ⟨(y 1).val / 128, by omega⟩) 1 + 1 * ((y 1).val % 128)
    rw [e1, e2]
    show 0 + 1 * (y 1).val = 128 * ((y 1).val / 128) + 1 * ((y 1).val % 128)
    omega
  | ⟨2, _⟩ =>
    show gOff g t 2 + 1 * (y 2).val = ftOff (blk g t ⟨(y 1).val / 128, by omega⟩) 2 + 1 * (y 2).val
    omega

/-- An operand whose row blocks are the image's rows is the image. -/
theorem imgB_of_rows {xs : Vec F S1x16x32 .f32} {x : Vec F S1x16x32x256 .fp8e4m3} {B : Vec F S512x256 .bf16}
    (h : ∀ i kb, window B (xbOff i kb) S32x128.size (xbOff_inb i kb) = rowB xs x i kb) : B = imgB xs x := by
  funext y
  unfold imgB
  rw [← h]
  refine (congrArg B (funext fun a => Fin.ext ?_)).symm
  match a with
  | ⟨0, _⟩ => show 32 * ((y 0).val / 32) + 1 * ((y 0).val % 32) = (y 0).val; omega
  | ⟨1, _⟩ => show 128 * ((y 1).val / 128) + 1 * ((y 1).val % 128) = (y 1).val; omega

/-- What the strided load of a row of the f32 copy reads. -/
theorem rowQ_of_window {xs : Vec F S1x16x32 .f32} {x : Vec F S1x16x32x256 .fp8e4m3} {X : Vec F S2x16x32x128 .f32} {i : Fin 16} {kb : Fin 2}
    (h : window X (xfOff i kb) S1x1x32x128.size (xfOff_inb i kb) = rowF xs x i kb) (t : Fin 4) :
    (fun y => sliceOf X (xfOff i kb) S1x1x32x128.size (xfOff_inb i kb) squeezes_S1x1x32x128_S32x128 ((qRect t).idx y)) = rowQ xs x i kb t := by
  funext z
  unfold sliceOf rowQ
  rw [h]
  refine congrArg (rowF xs x i kb) ?_
  refine (congrArg (Shape.reshapeEquiv _) (?_ : (qRect t).idx z = ValueIdx.ix2 (⟨4 * (z 0).val + t.val, by have : (z 0).val < 8 := (z 0).isLt; omega⟩ : Fin 32) (z 1))).trans
    (ValueIdx.reshapeEquiv_ix2_11ab _ _ _)
  funext a
  match a with
  | ⟨0, _⟩ => exact Fin.ext (by show t.val + 4 * (z 0).val = 4 * (z 0).val + t.val; omega)
  | ⟨1, _⟩ => exact Fin.ext (by show 0 + 1 * (z 1).val = (z 1).val; omega)

/-! ## The steps -/

variable (c : Dev nD) (A : Args)

/-- One step of the fill. -/
theorem fill_step {Q : PUnit → sProp 𝕄} (w9 : Vec F S9x256x384 .fp8e4m3) (ws : Vec F S2x384 .f32) (n : Fin 54) (k : PG F) (T : Vec F S14x256x256 .bf16) :
    iprop((owns (c : Thread nD τ) A.w9 fullShare w9 ∗ owns (c : Thread nD τ) A.ws fullShare ws ∗ owns (c : Thread nD τ) A.wt fullShare T)
      ∗ ((owns (c : Thread nD τ) A.w9 fullShare w9 ∗ owns (c : Thread nD τ) A.ws fullShare ws
          ∗ owns (c : Thread nD τ) A.wt fullShare (put T (ftOff n) S1x128x128.size (fillVal w9 ws n))) -∗ wpK c k Q))
      ⊢ wpK c (fillK A n k) Q := by
  unfold fillK
  iintro ⟨⟨H9, Hs, Ht⟩, Hk⟩
  iapply (own_load c A.w9 w9) $$ H9; iintro H9
  iapply (own_load c A.ws ws) $$ Hs; iintro Hs
  iapply (own_load c A.wt T) $$ Ht; iintro Ht
  iapply (own_store c A.wt T) $$ Ht; iintro Ht
  iapply Hk
  isplitl [H9]; · iexact H9
  isplitl [Hs]; · iexact Hs
  iexact Ht

/-- The fill leaves the tiles at every tap's weights. -/
theorem fills {Q : PUnit → sProp 𝕄} (w9 : Vec F S9x256x384 .fp8e4m3) (ws : Vec F S2x384 .f32) (k : PG F) :
    iprop((owns (c : Thread nD τ) A.w9 fullShare w9 ∗ owns (c : Thread nD τ) A.ws fullShare ws ∗ ∃ T, owns (c : Thread nD τ) A.wt fullShare T)
      ∗ ((owns (c : Thread nD τ) A.w9 fullShare w9 ∗ owns (c : Thread nD τ) A.ws fullShare ws
          ∗ ∃ T, ⌜IsWT w9 ws T⌝ ∗ owns (c : Thread nD τ) A.wt fullShare T) -∗ wpK c k Q))
      ⊢ wpK c (loopK (fillK A) 54 le_rfl (zeroK A k)) Q := by
  iintro ⟨⟨H9, Hs, ⟨%T, Ht⟩⟩, Hk⟩
  iapply (wp_loopK c (N := 54) (Q := Q) (fun n => iprop(owns (c : Thread nD τ) A.w9 fullShare w9 ∗ owns (c : Thread nD τ) A.ws fullShare ws
    ∗ ∃ T : Vec F S14x256x256 .bf16, ⌜∀ j : Fin 54, j.val < n → window T (ftOff j) S1x128x128.size (ftOff_inb j) = fillVal w9 ws j⌝ ∗ owns (c : Thread nD τ) A.wt fullShare T))
    (fillK A) (fun n k => by
      iintro ⟨⟨H9, Hs, ⟨%T, %hT, Ht⟩⟩, Hk⟩
      iapply (fill_step c A w9 ws n k T)
      isplitl [H9 Hs Ht]
      · isplitl [H9]; · iexact H9
        isplitl [Hs]; · iexact Hs
        iexact Ht
      iintro ⟨H9, Hs, Ht⟩
      iapply Hk
      isplitl [H9]; · iexact H9
      isplitl [Hs]; · iexact Hs
      iexists _
      isplitr
      swap; · iexact Ht
      ipureintro
      intro j hj
      by_cases e : j = n
      · subst e; exact VecWindow.window_put_same _ _ _ _ _
      · have hlt : j < n := Fin.lt_def.mpr (by have : j.val ≠ n.val := fun h => e (Fin.ext h); omega)
        obtain ⟨a, ha⟩ := ftOff_apart j n hlt
        rw [VecWindow.window_put_of_disjoint _ _ _ _ _ _ _ a ha]
        exact hT j hlt) 54 le_rfl (zeroK A k))
  isplitl [H9 Hs Ht]
  · isplitl [H9]; · iexact H9
    isplitl [Hs]; · iexact Hs
    iexists T
    isplitr; · ipureintro; intro j hj; exact absurd hj (Nat.not_lt_zero _)
    iexact Ht
  iintro ⟨H9, Hs, ⟨%T, %hT, Ht⟩⟩
  unfold zeroK
  iapply (own_load c A.wt T) $$ Ht; iintro Ht
  iapply (own_store c A.wt T) $$ Ht; iintro Ht
  iapply Hk
  isplitl [H9]; · iexact H9
  isplitl [Hs]; · iexact Hs
  iexists _
  isplitr
  swap; · iexact Ht
  ipureintro
  refine isWT_of_fill fun n => ?_
  obtain ⟨a, ha⟩ := ftOff_zero n
  rw [VecWindow.window_put_of_disjoint _ _ _ _ _ _ _ a ha]
  exact hT n n.isLt

/-- A row block dequantised into the f32 copy. -/
theorem xf_step {Q : PUnit → sProp 𝕄} (x : Vec F S1x16x32x256 .fp8e4m3) (v : FVec F S32x128 .f32) (i : Fin 16) (kb : Fin 2) (k : PG F) (X : Vec F S2x16x32x128 .f32) :
    iprop((owns (c : Thread nD τ) A.x fullShare x ∗ owns (c : Thread nD τ) A.xf fullShare X)
      ∗ ((owns (c : Thread nD τ) A.x fullShare x ∗ owns (c : Thread nD τ) A.xf fullShare
          (put X (xfOff i kb) S1x1x32x128.size (prepVal v (window x (xOff i kb) S1x1x32x128.size (xOff_inb i kb))))) -∗ wpK c k Q))
      ⊢ wpK c (xfK A v i kb k) Q := by
  unfold xfK
  iintro ⟨⟨Hx, Hf⟩, Hk⟩
  iapply (own_load c A.x x) $$ Hx; iintro Hx
  iapply (own_load c A.xf X) $$ Hf; iintro Hf
  iapply (own_store c A.xf X) $$ Hf; iintro Hf
  iapply Hk
  isplitl [Hx]; · iexact Hx
  iexact Hf

/-- A row block read back by residues and stored in the dot's operand. -/
theorem xb_step {Q : PUnit → sProp 𝕄} (x : Vec F S1x16x32x256 .fp8e4m3) (xs : Vec F S1x16x32 .f32) (i : Fin 16) (kb : Fin 2) (k : PG F) (X : Vec F S2x16x32x128 .f32)
    (B : Vec F S512x256 .bf16) (h : window X (xfOff i kb) S1x1x32x128.size (xfOff_inb i kb) = rowF xs x i kb) :
    iprop((owns (c : Thread nD τ) A.xf fullShare X ∗ owns (c : Thread nD τ) A.xb fullShare B)
      ∗ ((owns (c : Thread nD τ) A.xf fullShare X ∗ owns (c : Thread nD τ) A.xb fullShare (put B (xbOff i kb) S32x128.size (rowB xs x i kb))) -∗ wpK c k Q))
      ⊢ wpK c (xbK A i kb k) Q := by
  unfold xbK
  iintro ⟨⟨Hf, Hb⟩, Hk⟩
  iapply (own_loadSlice c A.xf X) $$ Hf; iintro Hf
  iapply (own_loadSlice c A.xf X) $$ Hf; iintro Hf
  iapply (own_loadSlice c A.xf X) $$ Hf; iintro Hf
  iapply (own_loadSlice c A.xf X) $$ Hf; iintro Hf
  iapply (own_load c A.xb B) $$ Hb; iintro Hb
  rw [rowQ_of_window h, rowQ_of_window h, rowQ_of_window h, rowQ_of_window h]
  iapply (own_store c A.xb B) $$ Hb; iintro Hb
  iapply Hk
  isplitl [Hf]; · iexact Hf
  iexact Hb

/-- The first block of a row stays when the second is written. -/
theorem xf_first (X : Vec F S2x16x32x128 .f32) (xs : Vec F S1x16x32 .f32) (x : Vec F S1x16x32x256 .fp8e4m3) (i : Fin 16) {w : FVec F S1x1x32x128 .f32} :
    window (put (put X (xfOff i 0) S1x1x32x128.size (rowF xs x i 0)) (xfOff i 1) S1x1x32x128.size w) (xfOff i 0) S1x1x32x128.size (xfOff_inb i 0) = rowF xs x i 0 := by
  rw [VecWindow.window_put_of_disjoint _ _ _ _ _ _ _ (0 : Fin 4) (Or.inl (show 0 + 1 ≤ 1 from Nat.le_refl 1)), VecWindow.window_put_same]

/-- The image's rows leave the dot's operand at the image. -/
theorem rows {Q : PUnit → sProp 𝕄} (x : Vec F S1x16x32x256 .fp8e4m3) (xs : Vec F S1x16x32 .f32) (k : PG F) :
    iprop((owns (c : Thread nD τ) A.x fullShare x ∗ owns (c : Thread nD τ) A.xs fullShare xs ∗ (∃ X, owns (c : Thread nD τ) A.xf fullShare X)
          ∗ ∃ B, owns (c : Thread nD τ) A.xb fullShare B)
      ∗ ((owns (c : Thread nD τ) A.x fullShare x ∗ owns (c : Thread nD τ) A.xs fullShare xs ∗ (∃ X, owns (c : Thread nD τ) A.xf fullShare X)
          ∗ owns (c : Thread nD τ) A.xb fullShare (imgB xs x)) -∗ wpK c k Q))
      ⊢ wpK c (rowsK A k) Q := by
  unfold rowsK
  iintro ⟨⟨Hx, Hs, HX, ⟨%B, Hb⟩⟩, Hk⟩
  iapply (own_loadAt c A.xs xs) $$ Hs; iintro Hs
  rw [show (fun y => xs ((Rect.unit (s := S1x16x32) ![0, 0, 0] S1x16x32.size inb_S1x16x32_S1x16x32_0_0_0).toLoadRect.idx y)) = xs from
    funext fun y => congrArg xs (Rect.emb_unit_full (s := S1x16x32) inb_S1x16x32_S1x16x32_0_0_0 y)]
  iapply (wp_loopK c (N := 16) (Q := Q) (fun n => iprop(owns (c : Thread nD τ) A.x fullShare x ∗ (∃ X, owns (c : Thread nD τ) A.xf fullShare X)
    ∗ ∃ B : Vec F S512x256 .bf16, ⌜∀ (i : Fin 16) (kb : Fin 2), i.val < n → window B (xbOff i kb) S32x128.size (xbOff_inb i kb) = rowB xs x i kb⌝ ∗ owns (c : Thread nD τ) A.xb fullShare B))
    (prepK A (scales xs)) (fun i k => by
      unfold prepK
      iintro ⟨⟨Hx, ⟨%X, Hf⟩, ⟨%B, %hB, Hb⟩⟩, Hk⟩
      iapply (xf_step c A x (rowScale (scales xs) i) i 0 _ X)
      isplitl [Hx Hf]
      · isplitl [Hx]; · iexact Hx
        iexact Hf
      iintro ⟨Hx, Hf⟩
      iapply (xf_step c A x (rowScale (scales xs) i) i 1 _ _)
      isplitl [Hx Hf]
      · isplitl [Hx]; · iexact Hx
        iexact Hf
      iintro ⟨Hx, Hf⟩
      iapply (xb_step c A x xs i 0 _ _ B (xf_first X xs x i))
      isplitl [Hf Hb]
      · isplitl [Hf]; · iexact Hf
        iexact Hb
      iintro ⟨Hf, Hb⟩
      iapply (xb_step c A x xs i 1 _ _ _ (VecWindow.window_put_same _ _ _ _ _))
      isplitl [Hf Hb]
      · isplitl [Hf]; · iexact Hf
        iexact Hb
      iintro ⟨Hf, Hb⟩
      iapply Hk
      isplitl [Hx]; · iexact Hx
      isplitl [Hf]; · iexists _; iexact Hf
      iexists _
      isplitr
      swap; · iexact Hb
      ipureintro
      intro j kb hj
      have go : ∀ lb, (j ≠ i ∨ kb ≠ lb) → ∀ (w : FVec F S32x128 .bf16) (B : Vec F S512x256 .bf16),
          window (put B (xbOff i lb) S32x128.size w) (xbOff j kb) S32x128.size (xbOff_inb j kb) = window B (xbOff j kb) S32x128.size (xbOff_inb j kb) := by
        intro lb h w B
        obtain ⟨a, ha⟩ := xbOff_apart j i kb lb h
        exact VecWindow.window_put_of_disjoint _ _ _ _ _ _ _ a ha
      by_cases e : j = i
      · subst e
        match kb with
        | 0 => rw [go 1 (Or.inr (by decide)), VecWindow.window_put_same]
        | 1 => rw [VecWindow.window_put_same]
      · rw [go 1 (Or.inl e), go 0 (Or.inl e)]
        exact hB j kb (by have : j.val ≠ i.val := fun h => e (Fin.ext h); omega)) 16 le_rfl k)
  isplitl [Hx HX Hb]
  · isplitl [Hx]; · iexact Hx
    isplitl [HX]; · iexact HX
    iexists B
    isplitr; · ipureintro; intro i kb hi; exact absurd hi (Nat.not_lt_zero _)
    iexact Hb
  iintro ⟨Hx, HX, ⟨%B, %hB, Hb⟩⟩
  rw [imgB_of_rows fun i kb => hB i kb i.isLt]
  iapply Hk
  isplitl [Hx]; · iexact Hx
  isplitl [Hs]; · iexact Hs
  isplitl [HX]; · iexact HX
  iexact Hb

end Cert.KernelIdeal.Hand

end
-- ==== Proof.Groups.lean ====
/-
  One group of output channels: its 32 rows stored in a slot's tile, the tile's copy to the result started, and the
  waits for such copies.
-/
module

public import proofs.«01_k».proof.Proof.Steps
public import Idealize.ShloMosaic.Lib.Exec.Geometry

@[expose] public section

noncomputable section

namespace Cert.KernelIdeal.Hand

open Cert.KernelIdeal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open VecWindow (window put)
open Facts₀

variable {F : FTy → Type} [FloatOps F]

local notation "𝕄" => MT nD τ sig Unit (Elt F) ℕ (Pipeline.UC sig nD τ) ℕ

variable (c : Dev nD) (A : Args)

/-! ## A row of a tile -/

/-- A row's box lies in its tile's. -/
theorem row_within : ∀ (s : Fin 2) (g : Fin 3) (r : Fin 32), LoadRect.within
    (Rect.unit (s := S2x3x32x64x128) ![s.val, g.val, 0, 0, 0] S1x1x32x64x128.size (tileOff_inb s g))
    (Rect.unit (s := S2x3x32x64x128) (rOff s g r) S1x1x1x64x128.size (rOff_inb s g r)).toLoadRect = true := by decide +kernel

/-- A tile with row `r` replaced. -/
def putRow (T : Vec F S32x64x128 .bf16) (r : Fin 32) (w : FVec F S1x1x1x64x128 .bf16) : Vec F S32x64x128 .bf16 := fun y =>
  if (y 0).val = r.val then w (ValueIdx.ix5 (0 : Fin 1) (0 : Fin 1) (0 : Fin 1) (y 1) (y 2)) else T y

/-- What a tile reads after the store of a row through the whole buffer. -/
theorem read_row (s : Fin 2) (g : Fin 3) (r : Fin 32) (w : FVec F S1x1x1x64x128 .bf16) (f : A.ob.view.ty.Contents (Elt F)) :
    (tile A s g).view.read (Elt F) (A.ob.view.writes (Elt F) f
        [⟨Rect.unit (s := S2x3x32x64x128) (rOff s g r) S1x1x1x64x128.size (rOff_inb s g r), w⟩])
      = putRow ((tile A s g).view.read (Elt F) f) r w := by
  funext y
  have hy : Shape.reshapeEquiv squeezes_S1x1x32x64x128_S32x64x128.numel_eq y = ValueIdx.ix5 (0 : Fin 1) (0 : Fin 1) (y 0) (y 1) (y 2) := by
    rw [ValueIdx.eq_ix3 y]
    exact ValueIdx.reshapeEquiv_ix3_11abc _ _ _ _
  have key : ∀ f' : A.ob.view.ty.Contents (Elt F), (tile A s g).view.read (Elt F) f' y
      = A.ob.view.read (Elt F) f' (ValueIdx.ix5 s g (y 0) (y 1) (y 2)) := by
    intro f'
    show A.ob.view.read (Elt F) f' ((Rect.unit (s := S2x3x32x64x128) ![s.val, g.val, 0, 0, 0] S1x1x32x64x128.size (tileOff_inb s g)).emb
      (Shape.reshapeEquiv squeezes_S1x1x32x64x128_S32x64x128.numel_eq y)) = _
    rw [hy]
    congr 1
    funext a
    fin_cases a <;> apply Fin.ext
    · show s.val + 1 * 0 = s.val; omega
    · show g.val + 1 * 0 = g.val; omega
    · show 0 + 1 * (y 0).val = (y 0).val; omega
    · show 0 + 1 * (y 1).val = (y 1).val; omega
    · show 0 + 1 * (y 2).val = (y 2).val; omega
  rw [key, View.read_writes_cons_unit A.ob.view f (rOff_inb s g r) w [] _ rfl]
  unfold putRow
  rw [key f]
  by_cases h : (y 0).val = r.val
  · have hin : ∀ a, rOff s g r a ≤ ((ValueIdx.ix5 s g (y 0) (y 1) (y 2) : S2x3x32x64x128.Idx) a).val
        ∧ ((ValueIdx.ix5 s g (y 0) (y 1) (y 2) : S2x3x32x64x128.Idx) a).val < rOff s g r a + S1x1x1x64x128.size a := by
      intro a
      have h1 : (y 1).val < 64 := (y 1).isLt
      have h2 : (y 2).val < 128 := (y 2).isLt
      fin_cases a
      · show s.val ≤ s.val ∧ s.val < s.val + 1; omega
      · show g.val ≤ g.val ∧ g.val < g.val + 1; omega
      · show r.val ≤ (y 0).val ∧ (y 0).val < r.val + 1; rw [h]; omega
      · show 0 ≤ (y 1).val ∧ (y 1).val < 0 + 64; omega
      · show 0 ≤ (y 2).val ∧ (y 2).val < 0 + 128; omega
    rw [dif_pos hin, if_pos h]
    refine congrArg w (funext fun a => ?_)
    fin_cases a <;> apply Fin.ext
    · show s.val - s.val = 0; omega
    · show g.val - g.val = 0; omega
    · show (y 0).val - r.val = 0; rw [h]; omega
    · show (y 1).val - 0 = (y 1).val; omega
    · show (y 2).val - 0 = (y 2).val; omega
  · rw [dif_neg, if_neg h]
    · rfl
    · intro hin
      have : r.val ≤ (y 0).val ∧ (y 0).val < r.val + 1 := hin 2
      exact h (by omega)

/-- The elements a row's load reads are the tile's, -/
theorem row_load_subset (s : Fin 2) (g : Fin 3) (r : Fin 32) :
    A.ob.view.setOn (Rect.unit (s := S2x3x32x64x128) (rOff s g r) S1x1x1x64x128.size (rOff_inb s g r)).toLoadRect.set ⊆ (tile A s g).view.set := by
  rw [Memref.set_view_squeeze]
  exact Memref.setOn_subset_slice_of_within A.ob _ (fun _ => rfl) _ (row_within s g r)
/-- and so are the elements its store writes. -/
theorem row_store_subset (s : Fin 2) (g : Fin 3) (r : Fin 32) :
    (A.ob.access (Rect.unit (s := S2x3x32x64x128) (rOff s g r) S1x1x1x64x128.size (rOff_inb s g r))).set ⊆ (tile A s g).view.set := by
  rw [Memref.set_view_squeeze]
  exact Memref.setOn_access_subset_slice_of_within A.ob _ (fun _ => rfl) _ Finset.univ (row_within s g r)

/-- A row's step. -/
theorem row_step {Q : PUnit → sProp 𝕄} (s : Fin 2) (g : Fin 3) (b : FVec F S1x128 .f32) (p : Fin 9 → FVec F S16x32x128 .f32) (r : Fin 32) (k : PG F)
    (T : Vec F S32x64x128 .bf16) :
    iprop(owns (c : Thread nD τ) (tile A s g) fullShare T
        ∗ (owns (c : Thread nD τ) (tile A s g) fullShare (putRow T r (outRow b p r)) -∗ wpK c k Q))
      ⊢ wpK c (rowK A s g b p r k) Q := by
  unfold owns rowK
  iintro ⟨⟨%f, %hf, H⟩, Hk⟩
  iapply (dead_load c A.ob (S := (tile A s g).view.set) (f := f)
    (row_load_subset A s g r)) $$ H
  iintro H
  iapply (wp_store_writes₀ (c := (c : Thread nD τ)) (defs := defs₀ (F := F)) Variants.none none Set.univ (m := A.ob) (f := f) (S := (tile A s g).view.set)
    (row_store_subset A s g r)) $$ H
  iintro H
  iapply Hk
  iexists _
  isplitr
  swap; · iexact H
  ipureintro
  rw [← hf]
  exact read_row A s g r _ f

/-- The 32 rows leave the output tile. -/
theorem row_loop {Q : PUnit → sProp 𝕄} (s : Fin 2) (g : Fin 3) (b : FVec F S1x128 .f32) (p : Fin 9 → FVec F S16x32x128 .f32) (k : PG F) :
    iprop((∃ T : Vec F S32x64x128 .bf16, owns (c : Thread nD τ) (tile A s g) fullShare T)
        ∗ (owns (c : Thread nD τ) (tile A s g) fullShare (outTile b p) -∗ wpK c k Q))
      ⊢ wpK c (loopK (rowK A s g b p) 32 le_rfl k) Q := by
  iintro ⟨H, Hk⟩
  iapply (wp_loopK c (fun n => iprop(∃ T : Vec F S32x64x128 .bf16, ⌜∀ y, (y 0).val < n → T y = outTile b p y⌝ ∗ owns (c : Thread nD τ) (tile A s g) fullShare T))
    (rowK A s g b p) (fun n k' => ?step))
  case step =>
    iintro ⟨⟨%T, %hT, H⟩, Hk⟩
    iapply (row_step c A s g b p n k' T)
    isplitl [H]; · iexact H
    iintro H
    iapply Hk
    iexists _
    isplitr
    swap; · iexact H
    ipureintro
    intro y hy
    unfold putRow
    by_cases h : (y 0).val = n.val
    · rw [if_pos h]
      obtain rfl : y 0 = n := Fin.ext h
      rfl
    · rw [if_neg h]
      exact hT y (by omega)
  isplitl [H]
  · icases H with ⟨%T, H⟩
    iexists T
    isplitr; · ipureintro; intro y hy; exact absurd hy (Nat.not_lt_zero _)
    iexact H
  · iintro ⟨%T, %hT, H⟩
    iapply Hk
    rw [show T = outTile b p from funext fun y => hT y (y 0).isLt]
    iexact H

/-! ## Copies -/

/-- Image `b`'s group `g`, on its way from slot `s`: it comes home at `Y`, with the tile. -/
def flight (s : Fin 2) (b : Fin 12) (g : Fin 3) (Y : Vec F S32x64x128 .bf16) : sProp 𝕄 :=
  Transfers.Flight countersEmb (c : Thread nD τ) (SemLoc.dma (cell A s g).sem) () (piece A b g).view.dmaCredit
    iprop(owns (c : Thread nD τ) (piece A b g) fullShare Y ∗ ∃ T : Vec F S32x64x128 .bf16, owns (c : Thread nD τ) (tile A s g) fullShare T)

/-- Starting a copy. -/
theorem send_step {Q : PUnit → sProp 𝕄} (s : Fin 2) (b : Fin 12) (g : Fin 3) (k : PG F) (T : Vec F S32x64x128 .bf16) :
    iprop((owns (c : Thread nD τ) (tile A s g) fullShare T ∗ (∃ Z : Vec F S32x64x128 .bf16, owns (c : Thread nD τ) (piece A b g) fullShare Z)
        ∗ semVal ((c : Thread nD τ), SemLoc.dma (cell A s g).sem) 0)
        ∗ (flight c A s b g T -∗ wpK c k Q))
      ⊢ wpK c (sendK A s b g k) Q := by
  unfold owns sendK flight
  iintro ⟨⟨⟨%f, %hf, Ht⟩, ⟨%Z, %f', %hf', Hp⟩, Hs⟩, Hk⟩
  iapply (Transfers.wp_dmaLocal (defs := defs₀ (F := F)) countersEmb Variants.none (c : Thread nD τ) none
    (src := tile A s g) (dst := piece A b g) (q := fullShare) (fs := f) (fd := f') (Sd := (piece A b g).view.set) () (piece A b g).view.dmaCredit rfl
    (View.dmaCredit_pos _ (by decide)) (Finset.Subset.refl _)) $$ [Ht Hp Hs]
  · isplitl [Ht]; · iexact Ht
    isplitl [Hp]; · iexact Hp
    iexact Hs
  iintro Hf
  iapply Hk
  iapply (Transfers.Flight_mono (D := _) (D' := _) ?_) $$ Hf
  unfold owns
  iintro ⟨Hp, Ht⟩
  isplitl [Hp]
  · iexists _
    isplitr
    swap; · iexact Hp
    ipureintro
    rw [View.read_write_univ]
    exact hf
  · iexists T, f
    isplitr; · ipureintro; exact hf
    iexact Ht

/-- Waiting for it. -/
theorem wait_step {Q : PUnit → sProp 𝕄} (s : Fin 2) (b : Fin 12) (g : Fin 3) (k : PG F) (Y : Vec F S32x64x128 .bf16) :
    iprop((flight c A s b g Y ∗ ∃ W, owes (c : Thread nD τ) 0 W)
        ∗ ((owns (c : Thread nD τ) (piece A b g) fullShare Y ∗ (∃ T : Vec F S32x64x128 .bf16, owns (c : Thread nD τ) (tile A s g) fullShare T)
          ∗ semVal ((c : Thread nD τ), SemLoc.dma (cell A s g).sem) 0 ∗ ∃ W, owes (c : Thread nD τ) 0 W) -∗ wpK c k Q))
      ⊢ wpK c (waitK A s b g k) Q := by
  unfold waitK flight
  iintro ⟨⟨Hf, ⟨%W, HW⟩⟩, Hk⟩
  iapply (Transfers.wp_waitLocal (defs := defs₀ (F := F)) countersEmb Variants.none (c : Thread nD τ) none () rfl) $$ [Hf HW]
  · isplitl [Hf]; · iexact Hf
    iexact HW
  iintro ⟨⟨Hp, Ht⟩, Hs, HW⟩
  iapply Hk
  isplitl [Hp]; · iexact Hp
  isplitl [Ht]; · iexact Ht
  isplitl [Hs]; · iexact Hs
  iexists _
  iexact HW

/-! ## A group -/

/-- A slot's share for group `g`: its semaphore at zero and its tile. -/
def freeG (s : Fin 2) (g : Fin 3) : sProp 𝕄 :=
  iprop(semVal ((c : Thread nD τ), SemLoc.dma (cell A s g).sem) 0 ∗ ∃ T : Vec F S32x64x128 .bf16, owns (c : Thread nD τ) (tile A s g) fullShare T)
/-- Image `b`'s group `g` in the result, not yet written. -/
def aheadG (b : Fin 12) (g : Fin 3) : sProp 𝕄 :=
  iprop(∃ Z : Vec F S32x64x128 .bf16, owns (c : Thread nD τ) (piece A b g) fullShare Z)

/-- A group's step: the tiles of the weights, the bias and the operand are read, and the output tile is sent. -/
theorem group_step {Q : PUnit → sProp 𝕄} (s : Fin 2) (b : Fin 12) (X : Vec F S512x256 .bf16) (g : Fin 3) (k : PG F)
    (w9 : Vec F S9x256x384 .fp8e4m3) (ws : Vec F S2x384 .f32) (bi : Vec F S1x384 .f32) :
    iprop(((∃ T : Vec F S14x256x256 .bf16, ⌜IsWT w9 ws T⌝ ∗ owns (c : Thread nD τ) A.wt fullShare T) ∗ owns (c : Thread nD τ) A.bias fullShare bi
        ∗ freeG c A s g ∗ aheadG c A b g)
        ∗ (((∃ T : Vec F S14x256x256 .bf16, ⌜IsWT w9 ws T⌝ ∗ owns (c : Thread nD τ) A.wt fullShare T) ∗ owns (c : Thread nD τ) A.bias fullShare bi
          ∗ flight c A s b g (outTile (biasOf bi g) (dotsOf X (tapW w9 ws g)))) -∗ wpK c k Q))
      ⊢ wpK c (groupK A s b X g k) Q := by
  unfold groupK tapK freeG aheadG
  iintro ⟨⟨⟨%T, %hT, HT⟩, Hb, ⟨Hs, Ht⟩, Ha⟩, Hk⟩
  iapply (own_load c A.wt T) $$ HT; iintro HT; rw [hT g 0]
  iapply (own_load c A.wt T) $$ HT; iintro HT; rw [hT g 1]
  iapply (own_load c A.wt T) $$ HT; iintro HT; rw [hT g 2]
  iapply (own_load c A.wt T) $$ HT; iintro HT; rw [hT g 3]
  iapply (own_load c A.wt T) $$ HT; iintro HT; rw [hT g 4]
  iapply (own_load c A.wt T) $$ HT; iintro HT; rw [hT g 5]
  iapply (own_load c A.wt T) $$ HT; iintro HT; rw [hT g 6]
  iapply (own_load c A.wt T) $$ HT; iintro HT; rw [hT g 7]
  iapply (own_load c A.wt T) $$ HT; iintro HT; rw [hT g 8]
  iapply (own_load c A.bias bi) $$ Hb; iintro Hb
  iapply (row_loop c A s g (biasOf bi g) (dotsOf X (tapW w9 ws g)) (sendK A s b g k))
  isplitl [Ht]; · iexact Ht
  iintro Ht
  iapply (send_step c A s b g k)
  isplitl [Ht Ha Hs]
  · isplitl [Ht]; · iexact Ht
    isplitl [Ha]; · iexact Ha
    iexact Hs
  iintro Hf
  iapply Hk
  isplitl [HT]
  · iexists T
    isplitr; · ipureintro; exact hT
    iexact HT
  isplitl [Hb]; · iexact Hb
  iexact Hf

/-! ## The slots -/

/-- Slot `s` free. -/
def free (s : Fin 2) : sProp 𝕄 := iprop(freeG c A s 0 ∗ freeG c A s 1 ∗ freeG c A s 2)
/-- Image `b` on its way from slot `s`, its groups at `Y`. -/
def infl (Y : Fin 12 → Fin 3 → Vec F S32x64x128 .bf16) (s : Fin 2) (b : Fin 12) : sProp 𝕄 :=
  iprop(flight c A s b 0 (Y b 0) ∗ flight c A s b 1 (Y b 1) ∗ flight c A s b 2 (Y b 2))
/-- Image `b` not yet written. -/
def ahead (b : Fin 12) : sProp 𝕄 := iprop(aheadG c A b 0 ∗ aheadG c A b 1 ∗ aheadG c A b 2)
/-- Image `b` written. -/
def behind (Y : Fin 12 → Fin 3 → Vec F S32x64x128 .bf16) (b : Fin 12) : sProp 𝕄 :=
  iprop(owns (c : Thread nD τ) (piece A b 0) fullShare (Y b 0) ∗ owns (c : Thread nD τ) (piece A b 1) fullShare (Y b 1)
    ∗ owns (c : Thread nD τ) (piece A b 2) fullShare (Y b 2))

/-- The three groups of an image, from a free slot. -/
theorem groups {Q : PUnit → sProp 𝕄} (i : grid0.Coords) (k : PG F) (Y : Fin 12 → Fin 3 → Vec F S32x64x128 .bf16) (s : Fin 2) (b : Fin 12)
    (hs : slotF i = s) (hb : imgF i = b) (B : Vec F S512x256 .bf16)
    (w9 : Vec F S9x256x384 .fp8e4m3) (ws : Vec F S2x384 .f32) (bi : Vec F S1x384 .f32)
    (hY : ∀ g, Y b g = outTile (biasOf bi g) (dotsOf B (tapW w9 ws g))) :
    iprop(((∃ T : Vec F S14x256x256 .bf16, ⌜IsWT w9 ws T⌝ ∗ owns (c : Thread nD τ) A.wt fullShare T) ∗ owns (c : Thread nD τ) A.bias fullShare bi
        ∗ owns (c : Thread nD τ) A.xb fullShare B ∗ free c A s ∗ ahead c A b)
        ∗ (((∃ T : Vec F S14x256x256 .bf16, ⌜IsWT w9 ws T⌝ ∗ owns (c : Thread nD τ) A.wt fullShare T) ∗ owns (c : Thread nD τ) A.bias fullShare bi
          ∗ owns (c : Thread nD τ) A.xb fullShare B ∗ infl c A Y s b) -∗ wpK c k Q))
      ⊢ wpK c (groupsK A i k) Q := by
  subst hs hb
  unfold groupsK free ahead infl
  rw [hY 0, hY 1, hY 2]
  iintro ⟨⟨HT, Hb, Hx, ⟨Hf0, Hf1, Hf2⟩, Ha0, Ha1, Ha2⟩, Hk⟩
  iapply (own_load c A.xb B) $$ Hx; iintro Hx
  rw [show window B ![0, 0] S512x256.size inb_S512x256_S512x256_0_0 = B from funext fun y => window_at B y y fun a => by
    fin_cases a <;> exact (Nat.zero_add _).symm]
  iapply (group_step c A (slotF i) (imgF i) B 0 _ w9 ws bi)
  isplitl [HT Hb Hf0 Ha0]
  · isplitl [HT]; · iexact HT
    isplitl [Hb]; · iexact Hb
    isplitl [Hf0] <;> iassumption
  iintro ⟨HT, Hb, H0⟩
  iapply (group_step c A (slotF i) (imgF i) B 1 _ w9 ws bi)
  isplitl [HT Hb Hf1 Ha1]
  · isplitl [HT]; · iexact HT
    isplitl [Hb]; · iexact Hb
    isplitl [Hf1] <;> iassumption
  iintro ⟨HT, Hb, H1⟩
  iapply (group_step c A (slotF i) (imgF i) B 2 _ w9 ws bi)
  isplitl [HT Hb Hf2 Ha2]
  · isplitl [HT]; · iexact HT
    isplitl [Hb]; · iexact Hb
    isplitl [Hf2] <;> iassumption
  iintro ⟨HT, Hb, H2⟩
  iapply Hk
  isplitl [HT]; · iexact HT
  isplitl [Hb]; · iexact Hb
  isplitl [Hx]; · iexact Hx
  isplitl [H0]; · iexact H0
  isplitl [H1] <;> iassumption

/-- The wait for a slot's image. -/
theorem recall {Q : PUnit → sProp 𝕄} (i : grid0.Coords) (k : PG F) (Y : Fin 12 → Fin 3 → Vec F S32x64x128 .bf16) (s : Fin 2) (b : Fin 12)
    (h : k0_cond2 i = 1#1) (hs : slotF i = s) (hb : imgF2 i h = b) :
    iprop((infl c A Y s b ∗ ∃ W, owes (c : Thread nD τ) 0 W)
        ∗ ((behind c A Y b ∗ free c A s ∗ ∃ W, owes (c : Thread nD τ) 0 W) -∗ wpK c k Q))
      ⊢ wpK c (recallK A i k) Q := by
  subst hs hb
  unfold recallK free behind infl freeG
  rw [dif_pos h]
  iintro ⟨⟨⟨H0, H1, H2⟩, HW⟩, Hk⟩
  iapply (wait_step c A)
  isplitl [H0 HW]; · isplitl [H0] <;> iassumption
  iintro ⟨Hp0, Ht0, Hs0, HW⟩
  iapply (wait_step c A)
  isplitl [H1 HW]; · isplitl [H1] <;> iassumption
  iintro ⟨Hp1, Ht1, Hs1, HW⟩
  iapply (wait_step c A)
  isplitl [H2 HW]; · isplitl [H2] <;> iassumption
  iintro ⟨Hp2, Ht2, Hs2, HW⟩
  iapply Hk
  isplitl [Hp0 Hp1 Hp2]
  · isplitl [Hp0]; · iexact Hp0
    isplitl [Hp1] <;> iassumption
  isplitr [HW]
  · isplitl [Hs0 Ht0]; · isplitl [Hs0] <;> iassumption
    isplitl [Hs1 Ht1]; · isplitl [Hs1] <;> iassumption
    isplitl [Hs2] <;> iassumption
  · iexact HW

/-- The last step's waits. -/
theorem drain {Q : PUnit → sProp 𝕄} (i : grid0.Coords) (k : PG F) (Y : Fin 12 → Fin 3 → Vec F S32x64x128 .bf16) (s s' : Fin 2) (b b' : Fin 12)
    (h : k0_cond3 i = 1#1) (hs : slotF i = s) (hb : imgF i = b) (hs' : slotF' i = s') (hb' : imgF1 i h = b') :
    iprop((infl c A Y s b ∗ infl c A Y s' b' ∗ ∃ W, owes (c : Thread nD τ) 0 W)
        ∗ ((behind c A Y b ∗ behind c A Y b' ∗ free c A s ∗ free c A s' ∗ ∃ W, owes (c : Thread nD τ) 0 W) -∗ wpK c k Q))
      ⊢ wpK c (drainK A i k) Q := by
  subst hs hb hs' hb'
  unfold drainK free behind infl freeG
  rw [dif_pos h]
  iintro ⟨⟨⟨H0, H1, H2⟩, ⟨G0, G1, G2⟩, HW⟩, Hk⟩
  iapply (wait_step c A)
  isplitl [G0 HW]; · isplitl [G0] <;> iassumption
  iintro ⟨Gp0, Gt0, Gs0, HW⟩
  iapply (wait_step c A)
  isplitl [H0 HW]; · isplitl [H0] <;> iassumption
  iintro ⟨Hp0, Ht0, Hs0, HW⟩
  iapply (wait_step c A)
  isplitl [G1 HW]; · isplitl [G1] <;> iassumption
  iintro ⟨Gp1, Gt1, Gs1, HW⟩
  iapply (wait_step c A)
  isplitl [H1 HW]; · isplitl [H1] <;> iassumption
  iintro ⟨Hp1, Ht1, Hs1, HW⟩
  iapply (wait_step c A)
  isplitl [G2 HW]; · isplitl [G2] <;> iassumption
  iintro ⟨Gp2, Gt2, Gs2, HW⟩
  iapply (wait_step c A)
  isplitl [H2 HW]; · isplitl [H2] <;> iassumption
  iintro ⟨Hp2, Ht2, Hs2, HW⟩
  iapply Hk
  isplitl [Hp0 Hp1 Hp2]
  · isplitl [Hp0]; · iexact Hp0
    isplitl [Hp1] <;> iassumption
  isplitl [Gp0 Gp1 Gp2]
  · isplitl [Gp0]; · iexact Gp0
    isplitl [Gp1] <;> iassumption
  isplitl [Hs0 Ht0 Hs1 Ht1 Hs2 Ht2]
  · isplitl [Hs0 Ht0]; · isplitl [Hs0] <;> iassumption
    isplitl [Hs1 Ht1]; · isplitl [Hs1] <;> iassumption
    isplitl [Hs2] <;> iassumption
  isplitl [Gs0 Gt0 Gs1 Gt1 Gs2 Gt2]
  · isplitl [Gs0 Gt0]; · isplitl [Gs0] <;> iassumption
    isplitl [Gs1 Gt1]; · isplitl [Gs1] <;> iassumption
    isplitl [Gs2] <;> iassumption
  · iexact HW

end Cert.KernelIdeal.Hand

end
-- ==== Proof.Printed.lean ====
module

public import proofs.«01_k».proof.Proof.Model
public import Idealize.ShloMosaic.Lib.Pipeline.Regions

@[expose] public section

set_option maxRecDepth 100000

noncomputable section

namespace Cert.KernelIdeal.Hand

open Cert.KernelIdeal
open Idealize.ShloMosaic Idealize.SL.Sem
open Facts₀

variable {F : FTy → Type} [FloatOps F]

/-- The grid point with a given number. -/
def lit (k : Fin 12) : grid0.Coords := fun a => match a with | ⟨0, _⟩ => k

/-- At each grid point the printed kernel is the short model. -/
theorem printed_lit (A : Args) : ∀ k : Fin 12, cc0_upconv (F := F) (lit k) A.x A.hx A.xs A.hxs A.w9 A.hw9 A.ws A.hws A.bias A.hbias A.out A.hout A.wt A.hwt A.xf A.hxf A.xb A.hxb A.ob A.hob A.sem = model A (lit k)
  | 0 => by chain_rfl
  | 1 => by chain_rfl
  | 2 => by chain_rfl
  | 3 => by chain_rfl
  | 4 => by chain_rfl
  | 5 => by chain_rfl
  | 6 => by chain_rfl
  | 7 => by chain_rfl
  | 8 => by chain_rfl
  | 9 => by chain_rfl
  | 10 => by chain_rfl
  | 11 => by chain_rfl

/-- Every grid point has a number. -/
theorem lit_eq (i : grid0.Coords) : i = lit (i 0) := funext fun a => match a with | ⟨0, _⟩ => rfl

/-- The printed kernel is the short model. -/
theorem printed_eq (A : Args) (i : grid0.Coords) : cc0_upconv (F := F) i A.x A.hx A.xs A.hxs A.w9 A.hw9 A.ws A.hws A.bias A.hbias A.out A.hout A.wt A.hwt A.xf A.hxf A.xb A.hxb A.ob A.hob A.sem = model A i := by
  rw [lit_eq i]; exact printed_lit A _

end Cert.KernelIdeal.Hand

end
-- ==== Proof.Body.lean ====
/-
  One run of the body: the ring of the output slots moves on by one image.
-/
module

public import proofs.«01_k».proof.Proof.Groups
public import proofs.«01_k».proof.Proof.Printed
public import Idealize.ShloMosaic.Lib.Ring.WriteBehind

@[expose] public section

noncomputable section

namespace Cert.KernelIdeal.Hand

open Cert.KernelIdeal
open Idealize.ShloMosaic Idealize.ShloMosaic.TcCoe Idealize.ShloMosaic.Ring
open Idealize.SL Idealize.SL.RA Idealize.SL.BI
open scoped Idealize.SL.BI
open Idealize.SL.BI.BIBase Idealize.SL.BI.Laws Idealize.SL.ProofMode Idealize.SL.Sem
open VecWindow (window put)
open Facts₀

variable {F : FTy → Type} [FloatOps F]

local notation "𝕄" => MT nD τ sig Unit (Elt F) ℕ (Pipeline.UC sig nD τ) ℕ

/-! ## The step's slots and images -/

/-- This step's slot is its parity's, the other slot the other parity's, this step's image its own. -/
theorem lit_slots : ∀ n : Fin 12, slotF (lit n) = sl 2 n.val ∧ slotF' (lit n) = sl 2 (n.val + 1) ∧ imgF (lit n) = bk 12 n.val := by decide +kernel
/-- The recall runs from the third step on, and waits for the image two steps before. -/
theorem lit_recall : ∀ n : Fin 12, (k0_cond2 (lit n) = 1#1 ↔ 2 ≤ n.val) ∧ ∀ h : k0_cond2 (lit n) = 1#1, imgF2 (lit n) h = bk 12 (n.val - 2) := by decide +kernel
/-- The drain runs at the last step, and waits for the image before, too. -/
theorem lit_drain : ∀ n : Fin 12, (k0_cond3 (lit n) = 1#1 ↔ n.val = 11) ∧ ∀ h : k0_cond3 (lit n) = 1#1, imgF1 (lit n) h = bk 12 (n.val - 1) := by decide +kernel
/-- The fill runs at the first step. -/
theorem lit_fill : ∀ n : Fin 12, cond1 (lit n) = 1#1 ↔ n.val = 0 := by decide +kernel

variable (c : Dev nD) (A : Args)

/-! ## The ring's step -/

/-- The weights' tiles before step `n`: anything before the first, every tap's weights after it. -/
def tilesAt (w9 : Vec F S9x256x384 .fp8e4m3) (ws : Vec F S2x384 .f32) (n : ℕ) : sProp 𝕄 :=
  if n = 0 then iprop(∃ T : Vec F S14x256x256 .bf16, owns (c : Thread nD τ) A.wt fullShare T)
  else iprop(∃ T : Vec F S14x256x256 .bf16, ⌜IsWT w9 ws T⌝ ∗ owns (c : Thread nD τ) A.wt fullShare T)
/-- The output slots before step `n`, the images' groups written at `Y`. -/
def ringAt (Y : Fin 12 → Fin 3 → Vec F S32x64x128 .bf16) (n : ℕ) : sProp 𝕄 :=
  AtBΦ 2 (free c A) (infl c A Y) (ahead c A) (behind c A Y) n
/-- The core's waits. -/
def waits : sProp 𝕄 := iprop(∃ W, owes (c : Thread nD τ) 0 W)

/-- What the groups need besides the ring. -/
def work (w9 : Vec F S9x256x384 .fp8e4m3) (ws : Vec F S2x384 .f32) (bi : Vec F S1x384 .f32) (B : Vec F S512x256 .bf16) : sProp 𝕄 :=
  iprop((∃ T : Vec F S14x256x256 .bf16, ⌜IsWT w9 ws T⌝ ∗ owns (c : Thread nD τ) A.wt fullShare T) ∗ owns (c : Thread nD τ) A.bias fullShare bi
    ∗ owns (c : Thread nD τ) A.xb fullShare B)

/-- The three groups, over `work`. -/
theorem groups_work {Q : PUnit → sProp 𝕄} (i : grid0.Coords) (k : PG F) (Y : Fin 12 → Fin 3 → Vec F S32x64x128 .bf16) (s : Fin 2) (b : Fin 12)
    (hs : slotF i = s) (hb : imgF i = b) (B : Vec F S512x256 .bf16)
    (w9 : Vec F S9x256x384 .fp8e4m3) (ws : Vec F S2x384 .f32) (bi : Vec F S1x384 .f32)
    (hY : ∀ g, Y b g = outTile (biasOf bi g) (dotsOf B (tapW w9 ws g))) :
    iprop((work c A w9 ws bi B ∗ free c A s ∗ ahead c A b) ∗ ((work c A w9 ws bi B ∗ infl c A Y s b) -∗ wpK c k Q))
      ⊢ wpK c (groupsK A i k) Q := by
  unfold work
  iintro ⟨⟨⟨HT, Hb, Hx⟩, Hf, Ha⟩, Hk⟩
  iapply (groups c A i k Y s b hs hb B w9 ws bi hY)
  isplitl [HT Hb Hx Hf Ha]
  · isplitl [HT]; · iexact HT
    isplitl [Hb]; · iexact Hb
    isplitl [Hx]; · iexact Hx
    isplitl [Hf] <;> iassumption
  iintro ⟨HT, Hb, Hx, Hi⟩
  iapply Hk
  isplitl [HT Hb Hx]
  · isplitl [HT]; · iexact HT
    isplitl [Hb] <;> iassumption
  · iexact Hi

/-- The ring's step at a point that neither recalls nor drains: the slot is free. -/
theorem ring_boot {Q : PUnit → sProp 𝕄} (n : Fin 12) (hn : n.val < 2) (k : PG F) (Y : Fin 12 → Fin 3 → Vec F S32x64x128 .bf16) (B : Vec F S512x256 .bf16)
    (w9 : Vec F S9x256x384 .fp8e4m3) (ws : Vec F S2x384 .f32) (bi : Vec F S1x384 .f32)
    (hY : ∀ g, Y (bk 12 n.val) g = outTile (biasOf bi g) (dotsOf B (tapW w9 ws g))) :
    iprop((work c A w9 ws bi B ∗ free c A (sl 2 n.val) ∗ ahead c A (bk 12 n.val)) ∗ ((work c A w9 ws bi B ∗ infl c A Y (sl 2 n.val) (bk 12 n.val)) -∗ wpK c k Q))
      ⊢ wpK c (recallK A (lit n) (groupsK A (lit n) (drainK A (lit n) k))) Q := by
  unfold recallK drainK
  rw [dif_neg (fun h => by have := (lit_recall n).1.1 h; omega), dif_neg (fun h => by have := (lit_drain n).1.1 h; omega)]
  exact groups_work c A (lit n) k Y _ _ (lit_slots n).1 (lit_slots n).2.2 B w9 ws bi hY

/-- The ring's step. -/
theorem ring_step {Q : PUnit → sProp 𝕄} (n : Fin 12) (k : PG F) (Y : Fin 12 → Fin 3 → Vec F S32x64x128 .bf16) (B : Vec F S512x256 .bf16)
    (w9 : Vec F S9x256x384 .fp8e4m3) (ws : Vec F S2x384 .f32) (bi : Vec F S1x384 .f32)
    (hY : ∀ g, Y (bk 12 n.val) g = outTile (biasOf bi g) (dotsOf B (tapW w9 ws g))) :
    iprop((work c A w9 ws bi B ∗ ringAt c A Y n.val ∗ waits c) ∗ ((work c A w9 ws bi B ∗ ringAt c A Y (n.val + 1) ∗ waits c) -∗ wpK c k Q))
      ⊢ wpK c (recallK A (lit n) (groupsK A (lit n) (drainK A (lit n) k))) Q := by
  have hn := n.isLt
  unfold ringAt
  rcases Nat.lt_or_ge n.val 2 with h2 | h2
  · rcases Nat.eq_zero_or_pos n.val with h0 | h0
    · rw [AtBΦ_lt _ _ _ _ _ n.val hn, AtB2_zero' 2 _ _ _ _ n.val h0, AtBΦ_lt _ _ _ _ _ (n.val + 1) (by omega), AtB22_next_zero' _ _ _ _ n.val h0]
      iintro ⟨⟨HW, ⟨⟨Ha, HA⟩, Hf0, Hf1⟩, HO⟩, Hk⟩
      iapply (ring_boot c A n h2 k Y B w9 ws bi hY)
      isplitl [HW Hf0 Ha]
      · isplitl [HW]; · iexact HW
        isplitl [Hf0] <;> iassumption
      iintro ⟨HW, Hi⟩
      iapply Hk
      isplitl [HW]; · iexact HW
      isplitr [HO]
      · isplitl [HA]; · iexact HA
        isplitl [Hf1] <;> iassumption
      · iexact HO
    · have h1 : n.val = 1 := by omega
      rw [AtBΦ_lt _ _ _ _ _ n.val hn, AtB22_one' _ _ _ _ n.val h1 (by omega), AtBΦ_lt _ _ _ _ _ (n.val + 1) (by omega), AtB22_next_one' _ _ _ _ n.val h1]
      iintro ⟨⟨HW, ⟨⟨Ha, HA⟩, Hf, Hc⟩, HO⟩, Hk⟩
      iapply (ring_boot c A n h2 k Y B w9 ws bi hY)
      isplitl [HW Hf Ha]
      · isplitl [HW]; · iexact HW
        isplitl [Hf] <;> iassumption
      iintro ⟨HW, Hi⟩
      iapply Hk
      isplitl [HW]; · iexact HW
      isplitr [HO]
      · isplitl [HA]; · iexact HA
        isplitl [Hc] <;> iassumption
      · iexact HO
  · rcases Nat.lt_or_ge n.val 11 with h11 | h11
    · rw [AtBΦ_lt _ _ _ _ _ n.val hn, AtB22_here _ _ _ _ n.val h2 hn, AtBΦ_lt _ _ _ _ _ (n.val + 1) (by omega), AtB22_next _ _ _ _ n.val h2 hn]
      have hd : ¬ k0_cond3 (lit n) = 1#1 := fun h => by have := (lit_drain n).1.1 h; omega
      unfold waits
      iintro ⟨⟨HW, ⟨⟨Ha, HA⟩, HB, Hi, Hc⟩, HO⟩, Hk⟩
      iapply (recall c A (lit n) _ Y (sl 2 n.val) (bk 12 (n.val - 2)) ((lit_recall n).1.2 h2) (lit_slots n).1 ((lit_recall n).2 _))
      isplitl [Hi HO]; · isplitl [Hi] <;> iassumption
      iintro ⟨Hb, Hf, HO⟩
      iapply (groups_work c A (lit n) _ Y _ _ (lit_slots n).1 (lit_slots n).2.2 B w9 ws bi hY)
      isplitl [HW Hf Ha]
      · isplitl [HW]; · iexact HW
        isplitl [Hf] <;> iassumption
      iintro ⟨HW, Hi⟩
      unfold drainK
      rw [dif_neg hd]
      iapply Hk
      isplitl [HW]; · iexact HW
      isplitr [HO]
      · isplitl [HA]; · iexact HA
        isplitl [Hb HB]; · isplitl [Hb] <;> iassumption
        isplitl [Hc] <;> iassumption
      · iexact HO
    · have h11 : n.val = 11 := by omega
      rw [AtBΦ_lt _ _ _ _ _ n.val hn, AtB22_here_last _ _ _ _ n.val h2 (by omega), AtBΦ_end _ _ _ _ _ (n.val + 1) (by omega), AtB22_drained _ _ n.val h2 (by omega)]
      unfold waits
      iintro ⟨⟨HW, ⟨Ha, HB, Hi, Hc⟩, HO⟩, Hk⟩
      iapply (recall c A (lit n) _ Y (sl 2 n.val) (bk 12 (n.val - 2)) ((lit_recall n).1.2 h2) (lit_slots n).1 ((lit_recall n).2 _))
      isplitl [Hi HO]; · isplitl [Hi] <;> iassumption
      iintro ⟨Hb, Hf, HO⟩
      iapply (groups_work c A (lit n) _ Y _ _ (lit_slots n).1 (lit_slots n).2.2 B w9 ws bi hY)
      isplitl [HW Hf Ha]
      · isplitl [HW]; · iexact HW
        isplitl [Hf] <;> iassumption
      iintro ⟨HW, Hi⟩
      iapply (drain c A (lit n) k Y (sl 2 n.val) (sl 2 (n.val + 1)) (bk 12 n.val) (bk 12 (n.val - 1)) ((lit_drain n).1.2 h11) (lit_slots n).1 (lit_slots n).2.2
        (lit_slots n).2.1 ((lit_drain n).2 _))
      isplitl [Hi Hc HO]
      · isplitl [Hi]; · iexact Hi
        isplitl [Hc] <;> iassumption
      iintro ⟨Hb0, Hb1, Hf, Hf', HO⟩
      iapply Hk
      isplitl [HW]; · iexact HW
      isplitr [HO]
      · isplitl [Hb0 Hb Hb1 HB]
        · isplitl [Hb0]; · iexact Hb0
          isplitl [Hb]; · iexact Hb
          isplitl [Hb1] <;> iassumption
        isplitl [Hf] <;> iassumption
      · iexact HO

/-! ## The body -/

/-- The staged blocks, at their values. -/
def blocks (x : Vec F S1x16x32x256 .fp8e4m3) (xs : Vec F S1x16x32 .f32) (w9 : Vec F S9x256x384 .fp8e4m3) (ws : Vec F S2x384 .f32) (bi : Vec F S1x384 .f32) : sProp 𝕄 :=
  iprop(owns (c : Thread nD τ) A.x fullShare x ∗ owns (c : Thread nD τ) A.xs fullShare xs ∗ owns (c : Thread nD τ) A.w9 fullShare w9
    ∗ owns (c : Thread nD τ) A.ws fullShare ws ∗ owns (c : Thread nD τ) A.bias fullShare bi)
/-- The scratch the rows go through, at anything. -/
def rowsScratch : sProp 𝕄 :=
  iprop((∃ X : Vec F S2x16x32x128 .f32, owns (c : Thread nD τ) A.xf fullShare X) ∗ ∃ B : Vec F S512x256 .bf16, owns (c : Thread nD τ) A.xb fullShare B)

/-- The fill, when it is due. -/
theorem fill_stage {Q : PUnit → sProp 𝕄} (n : Fin 12) (k : PG F) (w9 : Vec F S9x256x384 .fp8e4m3) (ws : Vec F S2x384 .f32) :
    iprop((owns (c : Thread nD τ) A.w9 fullShare w9 ∗ owns (c : Thread nD τ) A.ws fullShare ws ∗ tilesAt c A w9 ws n.val)
        ∗ ((owns (c : Thread nD τ) A.w9 fullShare w9 ∗ owns (c : Thread nD τ) A.ws fullShare ws
          ∗ ∃ T : Vec F S14x256x256 .bf16, ⌜IsWT w9 ws T⌝ ∗ owns (c : Thread nD τ) A.wt fullShare T) -∗ wpK c k Q))
      ⊢ wpK c (fillsK A (lit n) k) Q := by
  unfold fillsK tilesAt
  by_cases h : n.val = 0
  · rw [if_pos ((lit_fill n).2 h), if_pos h]
    exact fills c A w9 ws k
  · rw [if_neg (fun h' => h ((lit_fill n).1 h')), if_neg h]
    iintro ⟨H, Hk⟩
    iapply Hk
    iexact H

/-- One run of the body. -/
theorem body {Q : PUnit → sProp 𝕄} (n : Fin 12) (Y : Fin 12 → Fin 3 → Vec F S32x64x128 .bf16)
    (x : Vec F S1x16x32x256 .fp8e4m3) (xs : Vec F S1x16x32 .f32) (w9 : Vec F S9x256x384 .fp8e4m3) (ws : Vec F S2x384 .f32) (bi : Vec F S1x384 .f32)
    (hY : ∀ g, Y (bk 12 n.val) g = outTile (biasOf bi g) (dotsOf (imgB xs x) (tapW w9 ws g))) :
    iprop((blocks c A x xs w9 ws bi ∗ tilesAt c A w9 ws n.val ∗ rowsScratch c A ∗ ringAt c A Y n.val ∗ waits c)
        ∗ ((blocks c A x xs w9 ws bi ∗ tilesAt c A w9 ws (n.val + 1) ∗ rowsScratch c A ∗ ringAt c A Y (n.val + 1) ∗ waits c) -∗ Q ⟨⟩))
      ⊢ wpK c (cc0_upconv (lit n) A.x A.hx A.xs A.hxs A.w9 A.hw9 A.ws A.hws A.bias A.hbias A.out A.hout A.wt A.hwt A.xf A.hxf A.xb A.hxb A.ob A.hob A.sem) Q := by
  rw [printed_lit A n]
  unfold model blocks rowsScratch
  iintro ⟨⟨⟨Hx, Hxs, Hw, Hs, Hb⟩, HT, ⟨Hf, HB⟩, HR, HO⟩, Hk⟩
  iapply (fill_stage c A n _ w9 ws)
  isplitl [Hw Hs HT]
  · isplitl [Hw]; · iexact Hw
    isplitl [Hs] <;> iassumption
  iintro ⟨Hw, Hs, HT⟩
  iapply (rows c A x xs)
  isplitl [Hx Hxs Hf HB]
  · isplitl [Hx]; · iexact Hx
    isplitl [Hxs]; · iexact Hxs
    isplitl [Hf] <;> iassumption
  iintro ⟨Hx, Hxs, Hf, HB⟩
  iapply (ring_step c A n (.ret ⟨⟩) Y (imgB xs x) w9 ws bi hY)
  unfold work
  isplitl [HT Hb HB HR HO]
  · isplitl [HT Hb HB]
    · isplitl [HT]; · iexact HT
      isplitl [Hb] <;> iassumption
    isplitl [HR] <;> iassumption
  iintro ⟨⟨HT, Hb, HB⟩, HR, HO⟩
  unfold wpK
  rw [wp_ret]
  imodintro
  iapply Hk
  isplitl [Hx Hxs Hw Hs Hb]
  · isplitl [Hx]; · iexact Hx
    isplitl [Hxs]; · iexact Hxs
    isplitl [Hw]; · iexact Hw
    isplitl [Hs] <;> iassumption
  isplitl [HT]
  · rw [show tilesAt c A w9 ws (n.val + 1) = iprop(∃ T : Vec F S14x256x256 .bf16, ⌜IsWT w9 ws T⌝ ∗ owns (c : Thread nD τ) A.wt fullShare T) from
      if_neg (Nat.succ_ne_zero _)]
    iexact HT
  isplitl [Hf HB]
  · isplitl [Hf]; · iexact Hf
    iexists _; iexact HB
  isplitl [HR] <;> iassumption

end Cert.KernelIdeal.Hand

end
-- ==== Proof.Pieces.lean ====
/-
  The result held whole is its images' groups, and the output scratch held whole is its tiles.
-/
module

public import proofs.«01_k».proof.Proof.Body

@[expose] public section

noncomputable section

namespace Cert.KernelIdeal.Hand

open Cert.KernelIdeal
open Idealize.ShloMosaic Idealize.ShloMosaic.TcCoe Idealize.ShloMosaic.Ring
open Idealize.SL Idealize.SL.RA Idealize.SL.BI
open scoped Idealize.SL.BI
open Idealize.SL.BI.BIBase Idealize.SL.BI.Laws Idealize.SL.ProofMode Idealize.SL.Sem
open Facts₀

variable {F : FTy → Type} [FloatOps F]

local notation "𝕄" => MT nD τ sig Unit (Elt F) ℕ (Pipeline.UC sig nD τ) ℕ

/-! ## A memref at values, and its elements -/

/-- Elements held at contents that read `X` are the memref at `X`, -/
theorem owns_of_read (c : Dev nD) {sp : Space} {s : Shape} {e : EltTy} (m : Memref sig .tc sp s e) (f : Buf (Elt F) (m.view.loc (c : Thread nD τ))) :
    (m.view.loc (c : Thread nD τ) ↦[m.view.set]{fullShare} f : sProp 𝕄) ⊢ owns (c : Thread nD τ) m fullShare (m.view.read (Elt F) f) := by
  unfold owns
  iintro H
  iexists f
  isplitr; · ipureintro; rfl
  iexact H
/-- and the memref at what `f` reads is its elements at `f`. -/
theorem read_of_owns (c : Dev nD) {sp : Space} {s : Shape} {e : EltTy} (m : Memref sig .tc sp s e) (f : Buf (Elt F) (m.view.loc (c : Thread nD τ)))
    (X : s.Idx → Elt F e) (h : m.view.read (Elt F) f = X) :
    (owns (c : Thread nD τ) m fullShare X : sProp 𝕄) ⊢ m.view.loc (c : Thread nD τ) ↦[m.view.set]{fullShare} f := by
  subst h
  unfold owns
  iintro ⟨%g, %hg, H⟩
  iapply (Entails.of_eq (pointsTo_congr (f := g) (g := f) ?_)) $$ H
  intro i hi
  obtain ⟨y, -, rfl⟩ := Finset.mem_map.mp hi
  have := congrFun hg y
  rw [View.read_apply, View.read_apply] at this
  exact (_root_.cast_inj _).mp this

/-! ## The boxes -/

/-- An image's group as a box of the result, -/
def pieceBox (j : Fin 12 × Fin 3) : Finset S12x32x64x384.Idx :=
  (Rect.unit (s := S12x32x64x384) ![j.1.val, 0, 0, 128 * j.2.val] S1x32x64x128.size (pieceOff_inb j.1 j.2)).set
/-- and a tile as a box of the scratch. -/
def tileBox (j : Fin 2 × Fin 3) : Finset S2x3x32x64x128.Idx :=
  (Rect.unit (s := S2x3x32x64x128) ![j.1.val, j.2.val, 0, 0, 0] S1x1x32x64x128.size (tileOff_inb j.1 j.2)).set

/-- No two groups share an element, -/
theorem pieceBox_disjoint (j j' : Fin 12 × Fin 3) (h : j ≠ j') : Disjoint (pieceBox j) (pieceBox j') :=
  boxes_disjoint (s := S12x32x64x384) S1x32x64x128.size (fun j : Fin 12 × Fin 3 => ![j.1.val, 0, 0, 128 * j.2.val]) (fun j => pieceOff_inb j.1 j.2)
    (fun j => ![j.1.val, 0, 0, j.2.val]) (by decide +kernel) (fun k => (Fin.ofNat 12 (k 0), Fin.ofNat 3 (k 3))) (by decide +kernel) j j' h
/-- every element is some group's, -/
theorem pieceBox_cover : Finset.univ.biUnion pieceBox = Finset.univ := by
  refine Eq.trans (boxes_cover_grid (s := S12x32x64x384) S1x32x64x128.size (fun j : Fin 12 × Fin 3 => ![j.1.val, 0, 0, 128 * j.2.val]) (fun j => pieceOff_inb j.1 j.2)
    ![0, 0, 0, 0] S12x32x64x384.size (by decide)
    (fun j => ![j.1.val, 0, 0, j.2.val]) (by decide +kernel) ![12, 1, 1, 3] (by decide) ![0, 0, 0, 0] (by decide) ?_ (by decide +kernel)) ?_
  · intro j
    refine ⟨(j 0, j 3), fun a => ?_⟩
    have h1 : (j 1).val < 1 := (j 1).isLt
    have h2 : (j 2).val < 1 := (j 2).isLt
    fin_cases a
    · show (j 0).val = 0 + (j 0).val; omega
    · show 0 = 0 + (j 1).val; omega
    · show 0 = 0 + (j 2).val; omega
    · show (j 3).val = 0 + (j 3).val; omega
  · exact Rect.set_eq_univ_of_whole _ (by decide)
/-- no two tiles share an element, -/
theorem tileBox_disjoint (j j' : Fin 2 × Fin 3) (h : j ≠ j') : Disjoint (tileBox j) (tileBox j') :=
  boxes_disjoint (s := S2x3x32x64x128) S1x1x32x64x128.size (fun j : Fin 2 × Fin 3 => ![j.1.val, j.2.val, 0, 0, 0]) (fun j => tileOff_inb j.1 j.2)
    (fun j => ![j.1.val, j.2.val, 0, 0, 0]) (by decide +kernel) (fun k => (Fin.ofNat 2 (k 0), Fin.ofNat 3 (k 1))) (by decide +kernel) j j' h
/-- and every element is some tile's. -/
theorem tileBox_cover : Finset.univ.biUnion tileBox = Finset.univ := by
  refine Eq.trans (boxes_cover_grid (s := S2x3x32x64x128) S1x1x32x64x128.size (fun j : Fin 2 × Fin 3 => ![j.1.val, j.2.val, 0, 0, 0]) (fun j => tileOff_inb j.1 j.2)
    ![0, 0, 0, 0, 0] S2x3x32x64x128.size (by decide)
    (fun j => ![j.1.val, j.2.val, 0, 0, 0]) (by decide +kernel) ![2, 3, 1, 1, 1] (by decide) ![0, 0, 0, 0, 0] (by decide) ?_ (by decide +kernel)) ?_
  · intro j
    refine ⟨(j 0, j 1), fun a => ?_⟩
    have h2 : (j 2).val < 1 := (j 2).isLt
    have h3 : (j 3).val < 1 := (j 3).isLt
    have h4 : (j 4).val < 1 := (j 4).isLt
    fin_cases a
    · show (j 0).val = 0 + (j 0).val; omega
    · show (j 1).val = 0 + (j 1).val; omega
    · show 0 = 0 + (j 2).val; omega
    · show 0 = 0 + (j 3).val; omega
    · show 0 = 0 + (j 4).val; omega
  · exact Rect.set_eq_univ_of_whole _ (by decide)

/-! ## The result and the scratch -/

variable (c : Dev nD)

/-- A group of the whole result has its box's elements. -/
theorem piece_set (r : Rect S12x32x64x384) (h₀ : ∀ a, r.stride a = 1) (hq : r.shape.Squeezes S32x64x128) :
    (((Memref.whole main_v2).slice r h₀).squeeze S32x64x128 hq).view.set = r.set := by
  rw [Memref.set_view_squeeze]
  show ((Memref.whole main_v2).view.slice r).set = r.set
  rw [View.set_slice]
  exact Finset.map_refl
/-- A tile of the whole scratch has its box's. -/
theorem tile_set (r : Rect S2x3x32x64x128) (h₀ : ∀ a, r.stride a = 1) (hq : r.shape.Squeezes S32x64x128) :
    (((Memref.whole cc0_scratch3).slice r h₀).squeeze S32x64x128 hq).view.set = r.set := by
  rw [Memref.set_view_squeeze]
  show ((Memref.whole cc0_scratch3).view.slice r).set = r.set
  rw [View.set_slice]
  exact Finset.map_refl

/-- The body's buffers at point `t`. -/
def argsAt (t : Fin cfg0.N) : Args where
  x := win0_0.stage (cfg0.slots t 0)
  hx := hstage0_0 ((cfg0.slots t 0).cast nbuf0_0)
  xs := win0_1.stage (cfg0.slots t 1)
  hxs := hstage0_1 ((cfg0.slots t 1).cast nbuf0_1)
  w9 := win0_2.stage (cfg0.slots t 2)
  hw9 := hstage0_2 ((cfg0.slots t 2).cast nbuf0_2)
  ws := win0_3.stage (cfg0.slots t 3)
  hws := hstage0_3 ((cfg0.slots t 3).cast nbuf0_3)
  bias := win0_4.stage (cfg0.slots t 4)
  hbias := hstage0_4 ((cfg0.slots t 4).cast nbuf0_4)
  out := Memref.whole main_v2
  hout := Memref.isWhole_whole _
  wt := Memref.whole cc0_scratch0
  hwt := Memref.isWhole_whole _
  xf := Memref.whole cc0_scratch1
  hxf := Memref.isWhole_whole _
  xb := Memref.whole cc0_scratch2
  hxb := Memref.isWhole_whole _
  ob := Memref.whole cc0_scratch3
  hob := Memref.isWhole_whole _
  sem := cc0_scratch4

variable (t : Fin cfg0.N)

/-- A group's elements are its box's, -/
theorem set_piece (b : Fin 12) (g : Fin 3) : (piece (argsAt t) b g).view.set = pieceBox (b, g) := piece_set _ _ _
/-- and a tile's are its box's. -/
theorem set_tile (s : Fin 2) (g : Fin 3) : (tile (argsAt t) s g).view.set = tileBox (s, g) := tile_set _ _ _

/-- The whole result, at any contents, is every image ahead, -/
theorem ahead_of_out (f : Buf (Elt F) ((c : Thread nD τ).loc main_v2)) :
    (((c : Thread nD τ).loc main_v2) ↦{fullShare} f : sProp 𝕄) ⊢ bigSep Finset.univ (ahead c (argsAt t)) := by
  have h := pointsTo_blocks (Ix := Unit) (Name := ℕ) (U := Pipeline.UC sig nD τ) (Lvl := ℕ) (q := fullShare) (ℓ := (c : Thread nD τ).loc main_v2) pieceBox pieceBox_disjoint pieceBox_cover f
  have hg : ∀ (b : Fin 12) (g : Fin 3), (((c : Thread nD τ).loc main_v2) ↦[pieceBox (b, g)]{fullShare} f : sProp 𝕄) ⊢ aheadG c (argsAt t) b g := by
    intro b g
    have h : (((c : Thread nD τ).loc main_v2) ↦[pieceBox (b, g)]{fullShare} f : sProp 𝕄)
        ⊢ owns (c : Thread nD τ) (piece (argsAt t) b g) fullShare ((piece (argsAt t) b g).view.read (Elt F) f) := by
      have h := owns_of_read c (piece (argsAt t) b g) f
      rw [set_piece] at h
      exact h
    unfold aheadG
    iintro H
    iexists ((piece (argsAt t) b g).view.read (Elt F) f)
    iapply h $$ H
  have hb : ∀ b : Fin 12, (iprop(((c : Thread nD τ).loc main_v2 ↦[pieceBox (b, 0)]{fullShare} f) ∗ ((c : Thread nD τ).loc main_v2 ↦[pieceBox (b, 1)]{fullShare} f)
      ∗ ((c : Thread nD τ).loc main_v2 ↦[pieceBox (b, 2)]{fullShare} f)) : sProp 𝕄) ⊢ ahead c (argsAt t) b := by
    intro b
    unfold ahead
    iintro ⟨H0, H1, H2⟩
    isplitl [H0]; · iapply (hg b 0) $$ H0
    isplitl [H1]; · iapply (hg b 1) $$ H1
    iapply (hg b 2) $$ H2
  rw [h, BI.bigSep_univ_prod]
  refine BI.bigSep_mono fun b _ => ?_
  rw [bigSep_fin3]
  exact hb b

/-- and every image behind is the whole result, at the contents the groups read. -/
theorem out_of_behind (Y : Fin 12 → Fin 3 → Vec F S32x64x128 .bf16) (f : Buf (Elt F) ((c : Thread nD τ).loc main_v2))
    (hf : ∀ b g, (piece (argsAt t) b g).view.read (Elt F) f = Y b g) :
    bigSep Finset.univ (behind c (argsAt t) Y) ⊢ (((c : Thread nD τ).loc main_v2) ↦{fullShare} f : sProp 𝕄) := by
  have h := pointsTo_blocks (Ix := Unit) (Name := ℕ) (U := Pipeline.UC sig nD τ) (Lvl := ℕ) (q := fullShare) (ℓ := (c : Thread nD τ).loc main_v2) pieceBox pieceBox_disjoint pieceBox_cover f
  have hg : ∀ (b : Fin 12) (g : Fin 3), (owns (c : Thread nD τ) (piece (argsAt t) b g) fullShare (Y b g) : sProp 𝕄) ⊢ (((c : Thread nD τ).loc main_v2) ↦[pieceBox (b, g)]{fullShare} f) := by
    intro b g
    have := read_of_owns c (piece (argsAt t) b g) f _ (hf b g)
    rw [set_piece] at this
    exact this
  have hb : ∀ b : Fin 12, (behind c (argsAt t) Y b : sProp 𝕄) ⊢ iprop(((c : Thread nD τ).loc main_v2 ↦[pieceBox (b, 0)]{fullShare} f)
      ∗ ((c : Thread nD τ).loc main_v2 ↦[pieceBox (b, 1)]{fullShare} f) ∗ ((c : Thread nD τ).loc main_v2 ↦[pieceBox (b, 2)]{fullShare} f)) := by
    intro b
    unfold behind
    iintro ⟨H0, H1, H2⟩
    isplitl [H0]; · iapply (hg b 0) $$ H0
    isplitl [H1]; · iapply (hg b 1) $$ H1
    iapply (hg b 2) $$ H2
  rw [h, BI.bigSep_univ_prod]
  refine BI.bigSep_mono fun b _ => ?_
  rw [bigSep_fin3]
  exact hb b

/-- The kernel's own semaphores. -/
abbrev osem0 : Fin 6 → SemLoc sig := fun j => (![SemLoc.dma 7, SemLoc.dma 8, SemLoc.dma 9, SemLoc.dma 10, SemLoc.dma 11, SemLoc.dma 12] : Fin 6 → SemLoc sig) j
/-- They are scoped and no staging semaphore. -/
theorem ownSemFacts0 : Pipeline.OwnSemFacts spec0 osem0 := by decide
/-- They are the slots' cells. -/
theorem cell_sem : ∀ (s : Fin 2) (g : Fin 3), (cell (argsAt t) s g).sem = (![![7, 8, 9], ![10, 11, 12]] : Fin 2 → Fin 3 → DmaSem sig) s g := by
  show ∀ (s : Fin 2) (g : Fin 3), ((cc0_scratch4.slice (Rect.unit (s := S2x3) ![s.val, g.val] S1x1.size (semOff_inb s g))).squeeze S_ squeezes_S1x1_S_).sem = _
  decide +kernel
/-- All at zero. -/
theorem ownSems0_list :
    (Pipeline.ownSems0 (Ix := Unit) (Name := ℕ) (U := Pipeline.UC sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0
        ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5] (by decide) (by decide)]; rfl

/-- A tile at anything, as its box. -/
theorem tile_box (s : Fin 2) (g : Fin 3) :
    (iprop(∃ f, ((c : Thread nD τ).loc cc0_scratch3) ↦[tileBox (s, g)]{fullShare} f) : sProp 𝕄)
      ⊣⊢ iprop(∃ T : Vec F S32x64x128 .bf16, owns (c : Thread nD τ) (tile (argsAt t) s g) fullShare T) := by
  constructor
  · iintro ⟨%f, H⟩
    iexists ((tile (argsAt t) s g).view.read (Elt F) f)
    have h : (((c : Thread nD τ).loc cc0_scratch3) ↦[tileBox (s, g)]{fullShare} f : sProp 𝕄)
        ⊢ owns (c : Thread nD τ) (tile (argsAt t) s g) fullShare ((tile (argsAt t) s g).view.read (Elt F) f) := by
      have h := owns_of_read c (tile (argsAt t) s g) f
      rw [set_tile] at h
      exact h
    iapply h $$ H
  · unfold owns
    rw [set_tile]
    iintro ⟨%T, %f, -, H⟩
    iexists f
    iexact H

/-- The whole output scratch and the semaphores at zero are both slots free, -/
theorem free_of_scratch :
    (iprop((∃ f : Buf (Elt F) ((c : Thread nD τ).loc cc0_scratch3), ((c : Thread nD τ).loc cc0_scratch3) ↦{fullShare} f)
        ∗ Pipeline.ownSems0 (Ix := Unit) (Name := ℕ) (U := Pipeline.UC sig nD τ) (Lvl := ℕ) (Val := Elt F) (τ := τ) osem0 c) : sProp 𝕄)
      ⊢ bigSep Finset.univ (free c (argsAt t)) := by
  have h := pieces_split (Ix := Unit) (Name := ℕ) (U := Pipeline.UC sig nD τ) (Lvl := ℕ) (Val := Elt F) (q := fullShare) (ℓ := (c : Thread nD τ).loc cc0_scratch3) tileBox tileBox_disjoint tileBox_cover
    (fun j f => iprop(((c : Thread nD τ).loc cc0_scratch3) ↦[tileBox j]{fullShare} f)) (fun _ _ => rfl)
  rw [BI.bigSep_univ_prod, bigSep_fin2, bigSep_fin3, bigSep_fin3] at h
  rw [ownSems0_list, bigSep_fin2]
  unfold free freeG
  simp only [cell_sem]
  iintro ⟨HT, S0, S1, S2, S3, S4, S5⟩
  ihave HT' := h $$ HT
  icases HT' with ⟨⟨T0, T1, T2⟩, T3, T4, T5⟩
  isplitl [S0 S1 S2 T0 T1 T2]
  · isplitl [S0 T0]; · isplitl [S0]; · iexact S0
                       iapply (tile_box c t 0 0).1 $$ T0
    isplitl [S1 T1]; · isplitl [S1]; · iexact S1
                       iapply (tile_box c t 0 1).1 $$ T1
    isplitl [S2]; · iexact S2
    iapply (tile_box c t 0 2).1 $$ T2
  · isplitl [S3 T3]; · isplitl [S3]; · iexact S3
                       iapply (tile_box c t 1 0).1 $$ T3
    isplitl [S4 T4]; · isplitl [S4]; · iexact S4
                       iapply (tile_box c t 1 1).1 $$ T4
    isplitl [S5]; · iexact S5
    iapply (tile_box c t 1 2).1 $$ T5

/-- and both slots free are those. -/
theorem scratch_of_free :
    bigSep Finset.univ (free c (argsAt t))
      ⊢ (iprop((∃ f : Buf (Elt F) ((c : Thread nD τ).loc cc0_scratch3), ((c : Thread nD τ).loc cc0_scratch3) ↦{fullShare} f)
        ∗ Pipeline.ownSems0 (Ix := Unit) (Name := ℕ) (U := Pipeline.UC sig nD τ) (Lvl := ℕ) (Val := Elt F) (τ := τ) osem0 c) : sProp 𝕄) := by
  have h := pieces_join (Ix := Unit) (Name := ℕ) (U := Pipeline.UC sig nD τ) (Lvl := ℕ) (Val := Elt F) (q := fullShare) (ℓ := (c : Thread nD τ).loc cc0_scratch3) tileBox tileBox_disjoint tileBox_cover
    (fun j f => iprop(((c : Thread nD τ).loc cc0_scratch3) ↦[tileBox j]{fullShare} f)) (fun _ _ => rfl) (fun _ => Classical.ofNonempty)
  rw [BI.bigSep_univ_prod, bigSep_fin2, bigSep_fin3, bigSep_fin3] at h
  rw [ownSems0_list, bigSep_fin2]
  unfold free freeG
  simp only [cell_sem]
  iintro ⟨⟨⟨S0, T0⟩, ⟨S1, T1⟩, S2, T2⟩, ⟨S3, T3⟩, ⟨S4, T4⟩, S5, T5⟩
  isplitl [T0 T1 T2 T3 T4 T5]
  · iapply h
    isplitl [T0 T1 T2]
    · isplitl [T0]; · iapply (tile_box c t 0 0).2 $$ T0
      isplitl [T1]; · iapply (tile_box c t 0 1).2 $$ T1
      iapply (tile_box c t 0 2).2 $$ T2
    · isplitl [T3]; · iapply (tile_box c t 1 0).2 $$ T3
      isplitl [T4]; · iapply (tile_box c t 1 1).2 $$ T4
      iapply (tile_box c t 1 2).2 $$ T5
  · isplitl [S0]; · iexact S0
    isplitl [S1]; · iexact S1
    isplitl [S2]; · iexact S2
    isplitl [S3]; · iexact S3
    isplitl [S4]; · iexact S4
    iexact S5

end Cert.KernelIdeal.Hand

end
-- ==== Proof.Frame.lean ====
/-
  The run of the kernel: the arrays are left as launched, and the result holds every image's groups.
-/
module

public import proofs.«01_k».proof.Proof.Pieces
public import proofs.«01_k».proof.Proof.Gen.KernelIdeal.Frame
public import Idealize.ShloMosaic.Lib.Pipeline.Routed

@[expose] public section

noncomputable section

namespace Cert.KernelIdeal.Hand

open Cert.KernelIdeal Cert.KernelIdeal.Gen
open Idealize.ShloMosaic Idealize.ShloMosaic.TcCoe Idealize.ShloMosaic.Ring
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The launch's facts -/

set_option maxHeartbeats 800000 in
/-- The program up to its region. -/
theorem hmainC (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-- The points, by number, -/
def pt (n : Fin 12) : Fin cfg0.N := ⟨n.val, by have := n.isLt; have h : grid0.N = 12 := N_0; show n.val < grid0.N; omega⟩
/-- each point by its number, -/
def num (t : Fin cfg0.N) : Fin 12 := ⟨t.val, by have h : t.val < grid0.N := t.isLt; have h' : grid0.N = 12 := N_0; omega⟩
/-- and its coordinates. -/
theorem coords_lit (t : Fin cfg0.N) : grid0.coords t = lit (num t) := by
  rw [lit_eq (grid0.coords t)]
  congr 1
  have h : ∀ t : Fin grid0.N, ((grid0.coords t) 0).val = t.val := by decide +kernel
  exact Fin.ext (h t)

/-! ## The blocks and the result's values -/

/-- The image at a point, -/
def xAt (c : Dev nD) (t : Fin cfg0.N) : Vec F S1x16x32x256 .fp8e4m3 := iblk m c 0 t
/-- its scales, -/
def xsAt (c : Dev nD) (t : Fin cfg0.N) : Vec F S1x16x32 .f32 := iblk m c 1 t
/-- the weights, -/
def w9At (c : Dev nD) (t : Fin cfg0.N) : Vec F S9x256x384 .fp8e4m3 := iblk m c 2 t
/-- their scales, -/
def wsAt (c : Dev nD) (t : Fin cfg0.N) : Vec F S2x384 .f32 := iblk m c 3 t
/-- and the bias. -/
def biAt (c : Dev nD) (t : Fin cfg0.N) : Vec F S1x384 .f32 := iblk m c 4 t

/-- The weights are the same at every point, -/
theorem w9At_const (c : Dev nD) (t : Fin cfg0.N) : w9At m c t = w9At m c t0_0 := rfl
/-- and so are their scales, -/
theorem wsAt_const (c : Dev nD) (t : Fin cfg0.N) : wsAt m c t = wsAt m c t0_0 := rfl
/-- and the bias. -/
theorem biAt_const (c : Dev nD) (t : Fin cfg0.N) : biAt m c t = biAt m c t0_0 := rfl

/-- Image `b`'s channel group `g` of the result. -/
def Yt (c : Dev nD) (b : Fin 12) (g : Fin 3) : Vec F S32x64x128 .bf16 :=
  outTile (biasOf (biAt m c t0_0) g) (dotsOf (imgB (xsAt m c (pt b)) (xAt m c (pt b))) (tapW (w9At m c t0_0) (wsAt m c t0_0) g))

/-- The whole result. -/
def Yout (c : Dev nD) : Vec F S12x32x64x384 .bf16 := fun i =>
  Yt m c (i 0) ⟨(i 3).val / 128, by have : (i 3).val < 384 := (i 3).isLt; omega⟩
    (ValueIdx.ix3 (i 1) (i 2) (⟨(i 3).val % 128, Nat.mod_lt _ (by decide)⟩ : Fin 128))

/-- It reads, group by group, the groups' values. -/
theorem read_Yout (c : Dev nD) (b : Fin 12) (g : Fin 3) : (piece (argsAt t0_0) b g).view.read (Elt F) (Yout m c) = Yt m c b g := by
  funext y
  have hy : Shape.reshapeEquiv squeezes_S1x32x64x128_S32x64x128.numel_eq y = ValueIdx.ix4 (0 : Fin 1) (y 0) (y 1) (y 2) := by
    rw [ValueIdx.eq_ix3 y]
    exact ValueIdx.reshapeEquiv_ix3_1abc _ _ _ _
  have h2 : (y 2).val < 128 := (y 2).isLt
  show Yout m c ((Rect.unit (s := S12x32x64x384) ![b.val, 0, 0, 128 * g.val] S1x32x64x128.size (pieceOff_inb b g)).emb
      (Shape.reshapeEquiv squeezes_S1x32x64x128_S32x64x128.numel_eq y)) = _
  rw [hy]
  have e : (Rect.unit (s := S12x32x64x384) ![b.val, 0, 0, 128 * g.val] S1x32x64x128.size (pieceOff_inb b g)).emb (ValueIdx.ix4 (0 : Fin 1) (y 0) (y 1) (y 2))
      = ValueIdx.ix4 b (y 0) (y 1) (⟨128 * g.val + (y 2).val, by have := g.isLt; omega⟩ : Fin 384) := by
    funext a
    fin_cases a <;> apply Fin.ext
    · show b.val + 1 * 0 = b.val; omega
    · show 0 + 1 * (y 0).val = (y 0).val; omega
    · show 0 + 1 * (y 1).val = (y 1).val; omega
    · show 128 * g.val + 1 * (y 2).val = 128 * g.val + (y 2).val; omega
  refine (congrArg (Yout m c) e).trans ?_
  show Yt m c b ⟨(128 * g.val + (y 2).val) / 128, _⟩ (ValueIdx.ix3 (y 0) (y 1) (⟨(128 * g.val + (y 2).val) % 128, _⟩ : Fin 128)) = _
  have hg : (⟨(128 * g.val + (y 2).val) / 128, by have := g.isLt; omega⟩ : Fin 3) = g := Fin.ext (by show (128 * g.val + (y 2).val) / 128 = g.val; omega)
  have hz : (⟨(128 * g.val + (y 2).val) % 128, Nat.mod_lt _ (by decide)⟩ : Fin 128) = y 2 := Fin.ext (by show (128 * g.val + (y 2).val) % 128 = (y 2).val; omega)
  rw [hg, hz]
  exact congrArg (Yt m c b g) (ValueIdx.eq_ix3 y).symm

/-! ## What is carried from point to point -/

/-- Before point `n`: the weights' tiles, the rows' scratch, the ring of output slots, the generator. -/
def Phi (c : Dev nD) (n : ℕ) : sProp 𝕄 :=
  iprop(tilesAt c (argsAt t0_0) (w9At m c t0_0) (wsAt m c t0_0) n ∗ rowsScratch c (argsAt t0_0) ∗ ringAt c (argsAt t0_0) (Yt m c) n ∗ ∃ r, prngReg c r)

/-- The ring names no staged buffer, -/
theorem ringAt_any (c : Dev nD) (t : Fin cfg0.N) (Y : Fin 12 → Fin 3 → Vec F S32x64x128 .bf16) (n : ℕ) : (ringAt c (argsAt t) Y n : sProp 𝕄) = ringAt c (argsAt t0_0) Y n := by
  chain_rfl
/-- nor do the tiles -/
theorem tilesAt_any (c : Dev nD) (t : Fin cfg0.N) (w9 : Vec F S9x256x384 .fp8e4m3) (ws : Vec F S2x384 .f32) (n : ℕ) :
    (tilesAt c (argsAt t) w9 ws n : sProp 𝕄) = tilesAt c (argsAt t0_0) w9 ws n := by
  chain_rfl
/-- or the rows' scratch. -/
theorem rowsScratch_any (c : Dev nD) (t : Fin cfg0.N) : (rowsScratch c (argsAt t) : sProp 𝕄) = rowsScratch c (argsAt t0_0) := by
  chain_rfl

/-- The proof data of the pipeline. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Phi m c t.val
  q _ := fullShare
  owed _ := 0

/-- Its arrays are the region's. -/
theorem A_eq (c : Dev nD) (w : Fin cfg0.W) : (dats m 0 c).A w = V m c (Pipeline.arrRef spec0 w) := by
  dsimp only [dats]
/-- Each staging buffer is left as it was found. -/
theorem after0_0 (c : Dev nD) (t : Fin cfg0.N) : (dats m 0 c).after 0 t = iblk m c 0 t := by dsimp only [dats]
@[inherit_doc after0_0] theorem after0_1 (c : Dev nD) (t : Fin cfg0.N) : (dats m 0 c).after 1 t = iblk m c 1 t := by dsimp only [dats]
@[inherit_doc after0_0] theorem after0_2 (c : Dev nD) (t : Fin cfg0.N) : (dats m 0 c).after 2 t = iblk m c 2 t := by dsimp only [dats]
@[inherit_doc after0_0] theorem after0_3 (c : Dev nD) (t : Fin cfg0.N) : (dats m 0 c).after 3 t = iblk m c 3 t := by dsimp only [dats]
@[inherit_doc after0_0] theorem after0_4 (c : Dev nD) (t : Fin cfg0.N) : (dats m 0 c).after 4 t = iblk m c 4 t := by dsimp only [dats]

/-- Each staging buffer holds its block when the body starts. -/
theorem before_0 {c : Dev nD} (dat : Dat τ (Elt F) Unit ℕ (Pipeline.UC sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
@[inherit_doc before_0] theorem before_1 {c : Dev nD} (dat : Dat τ (Elt F) Unit ℕ (Pipeline.UC sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
@[inherit_doc before_0] theorem before_2 {c : Dev nD} (dat : Dat τ (Elt F) Unit ℕ (Pipeline.UC sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
@[inherit_doc before_0] theorem before_3 {c : Dev nD} (dat : Dat τ (Elt F) Unit ℕ (Pipeline.UC sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
@[inherit_doc before_0] theorem before_4 {c : Dev nD} (dat : Dat τ (Elt F) Unit ℕ (Pipeline.UC sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's obligation -/

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- One run of the body, at a point, between two carried states. -/
theorem body_at {Q : PUnit → sProp 𝕄} (c : Dev nD) (t : Fin cfg0.N) :
    iprop((blocks c (argsAt t) (xAt m c t) (xsAt m c t) (w9At m c t) (wsAt m c t) (biAt m c t) ∗ Phi m c t.val ∗ waits c)
        ∗ ((blocks c (argsAt t) (xAt m c t) (xsAt m c t) (w9At m c t) (wsAt m c t) (biAt m c t) ∗ Phi m c (t.val + 1) ∗ waits c) -∗ Q ⟨⟩))
      ⊢ wpK c (bodyAt0 t) Q := by
  have e : (bk 12 (num t).val : Fin 12) = num t := Fin.ext (Nat.mod_eq_of_lt (num t).isLt)
  have hp : pt (num t) = t := rfl
  have h := body (Q := Q) c (argsAt t) (num t) (Yt m c) (xAt m c t) (xsAt m c t) (w9At m c t) (wsAt m c t) (biAt m c t) (by
    intro g; rw [e, w9At_const, wsAt_const, biAt_const]; unfold Yt; rw [hp])
  rw [← coords_lit] at h
  refine BIBase.Entails.trans ?_ h
  unfold Phi
  rw [tilesAt_any, tilesAt_any, rowsScratch_any, ringAt_any, ringAt_any, w9At_const m c t, wsAt_const m c t]
  iintro ⟨⟨Hb, ⟨HT, HS, HR, Hp⟩, HO⟩, Hk⟩
  isplitr [Hk Hp]
  · isplitl [Hb]; · iexact Hb
    isplitl [HT]; · iexact HT
    isplitl [HS]; · iexact HS
    isplitl [HR]; · iexact HR
    iexact HO
  · iintro ⟨Hb, HT, HS, HR, HO⟩
    iapply Hk
    isplitl [Hb]; · iexact Hb
    isplitr [HO]
    · isplitl [HT]; · iexact HT
      isplitl [HS]; · iexact HS
      isplitl [HR]; · iexact HR
      iexact Hp
    iexact HO

/-- The body's obligation at a point. -/
theorem sound_body (c : Dev nD) (t : Fin cfg0.N) :
    bodyPre m c t ⊢ wp frame (wpE (defs₀ (F := F)) Variants.none c none) Set.univ (bodyAt0 t) (fun _ => bodyPost m c t) := by
  refine BIBase.Entails.trans ?_ (body_at (Q := fun _ => bodyPost m c t) m c t)
  unfold bodyPre bodyPost
  rw [show (dats m 0 c).Φ t.succ = Phi m c (t.val + 1) from rfl, show (dats m 0 c).Φ t.castSucc = Phi m c t.val from rfl]
  unfold Dat.owesAt Pipeline.owesWithin
  rw [show (dats m 0 c).owed t.castSucc = 0 from rfl, show (dats m 0 c).owed t.succ = 0 from rfl]
  simp only [before_0 m (dats m 0 c) (A_eq m c 0) (after0_0 m c), before_1 m (dats m 0 c) (A_eq m c 1) (after0_1 m c),
    before_2 m (dats m 0 c) (A_eq m c 2) (after0_2 m c), before_3 m (dats m 0 c) (A_eq m c 3) (after0_3 m c),
    before_4 m (dats m 0 c) (A_eq m c 4) (after0_4 m c), after0_0, after0_1, after0_2, after0_3, after0_4]
  unfold blocks waits
  iintro ⟨HΦ, ⟨%W, -, HW⟩, ⟨%d0, H0⟩, ⟨%d1, H1⟩, ⟨%d2, H2⟩, ⟨%d3, H3⟩, ⟨%d4, H4⟩⟩
  isplitl
  · isplitl [H0 H1 H2 H3 H4]
    · isplitl [H0]; · iexact H0
      isplitl [H1]; · iexact H1
      isplitl [H2]; · iexact H2
      isplitl [H3]; · iexact H3
      iexact H4
    isplitl [HΦ]; · iexact HΦ
    iexists W; iexact HW
  · iintro ⟨⟨H0, H1, H2, H3, H4⟩, HΦ, ⟨%W', HW'⟩⟩
    isplitl [HΦ]; · iexact HΦ
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4

/-- The body the pipeline calls. -/
theorem defs₀_row (t : Fin cfg0.N) : defs₀ (F := F) .tc cfg0.body (cfg0.bodyArgs t (cfg0.slots t)) = bodyAt0 t := by
  unfold defs₀; rw [Defs.onTc_tc]

/-- The body's obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The ends -/

/-- The one array the kernel writes, and does not stage. -/
abbrev R0 : Finset (Ref sig .tc) := {main_v2}
/-- The arrays at the end. -/
def Yend (c : Dev nD) (b : Ref sig .tc) : Buf (Elt F) ((c : Thread nD τ).loc b) := Function.update (V m c) main_v2 (Yout m c) b

/-- The scratch held whole is its memref. -/
theorem owns_wt (c : Dev nD) (f : Vec F S14x256x256 .bf16) : (owns (c : Thread nD τ) (argsAt t0_0).wt fullShare f : sProp 𝕄) = (((c : Thread nD τ).loc cc0_scratch0) ↦{fullShare} f) := by
  show (owns (c : Thread nD τ) (Memref.whole cc0_scratch0) fullShare f : sProp 𝕄) = _
  exact owns_whole (c : Thread nD τ) cc0_scratch0 fullShare f
/-- The scratch held whole is its memref. -/
theorem owns_xf (c : Dev nD) (f : Vec F S2x16x32x128 .f32) : (owns (c : Thread nD τ) (argsAt t0_0).xf fullShare f : sProp 𝕄) = (((c : Thread nD τ).loc cc0_scratch1) ↦{fullShare} f) := by
  show (owns (c : Thread nD τ) (Memref.whole cc0_scratch1) fullShare f : sProp 𝕄) = _
  exact owns_whole (c : Thread nD τ) cc0_scratch1 fullShare f
/-- The scratch held whole is its memref. -/
theorem owns_xb (c : Dev nD) (f : Vec F S512x256 .bf16) : (owns (c : Thread nD τ) (argsAt t0_0).xb fullShare f : sProp 𝕄) = (((c : Thread nD τ).loc cc0_scratch2) ↦{fullShare} f) := by
  show (owns (c : Thread nD τ) (Memref.whole cc0_scratch2) fullShare f : sProp 𝕄) = _
  exact owns_whole (c : Thread nD τ) cc0_scratch2 fullShare f

/-- What the launch hands over is the state before the first point, -/
theorem ends_in (c : Dev nD) : (Pipeline.Ends spec0 osem0 R0 c (V m c) : sProp 𝕄) ⊢ Phi m c 0 := by
  have hf := free_of_scratch (F := F) c t0_0
  have ha := ahead_of_out (F := F) c t0_0 (V m c main_v2)
  unfold Pipeline.Ends Phi
  rw [Pipeline.routed_singleton, scopedRest0_eq]
  unfold tilesAt rowsScratch ringAt
  rw [AtBΦ_lt _ _ _ _ _ 0 (by decide), AtB_zero]
  unfold AtB₀
  rw [if_pos rfl]
  iintro ⟨Hv, Hs, ⟨⟨%f0, H0⟩, ⟨%f1, H1⟩, ⟨%f2, H2⟩, H3⟩, Hp⟩
  isplitl [H0]
  · iexists f0; iapply (Entails.of_eq (owns_wt c f0).symm) $$ H0
  isplitl [H1 H2]
  · isplitl [H1]
    · iexists f1; iapply (Entails.of_eq (owns_xf c f1).symm) $$ H1
    · iexists f2; iapply (Entails.of_eq (owns_xb c f2).symm) $$ H2
  isplitr [Hp]
  · isplitl [Hv]; · iapply ha $$ Hv
    iapply hf
    isplitl [H3]; · iexact H3
    iexact Hs
  iexact Hp

/-- and the state after the last is what it takes back. -/
theorem ends_out (c : Dev nD) : (Phi m c 12 : sProp 𝕄) ⊢ Pipeline.Ends spec0 osem0 R0 c (Yend m c) := by
  have hf := scratch_of_free (F := F) c t0_0
  have ha := out_of_behind (F := F) c t0_0 (Yt m c) (Yout m c) (read_Yout m c)
  unfold Pipeline.Ends Phi
  rw [Pipeline.routed_singleton, scopedRest0_eq]
  rw [show Yend m c main_v2 = Yout m c from by unfold Yend; exact Function.update_self _ _ _]
  unfold tilesAt rowsScratch ringAt
  rw [AtBΦ_end _ _ _ _ _ 12 rfl]
  unfold AtBEnd
  rw [if_neg (by decide)]
  iintro ⟨⟨%T, -, H0⟩, ⟨⟨%f1, H1⟩, ⟨%f2, H2⟩⟩, ⟨Hv, HF⟩, Hp⟩
  ihave HF' := hf $$ HF
  icases HF' with ⟨H3, Hs⟩
  isplitl [Hv]; · iapply ha $$ Hv
  isplitl [Hs]; · iexact Hs
  isplitl [H0 H1 H2 H3]
  · isplitl [H0]
    · iexists T; iapply (Entails.of_eq (owns_wt c T)) $$ H0
    isplitl [H1]
    · iexists f1; iapply (Entails.of_eq (owns_xf c f1)) $$ H1
    isplitl [H2]
    · iexists f2; iapply (Entails.of_eq (owns_xb c f2)) $$ H2
    iexact H3
  iexact Hp

/-! ## The run -/

set_option backward.isDefEq.respectTransparency.types false in
/-- The run: staged arrays, the result, the arrays no one touches, the semaphores. -/
theorem run_main : θ_run defs (onTc (τ := τ) (main (F := F))) (s₀ m ρ)
    (fun r => Pipeline.RoutedPost cfgs (dats m) 0 R0 (V m) (Yend m) r ∧ r.2.sem = fun _ => 0) :=
  Pipeline.θ_run_frame_routed (Q' := _) cfgs (dats m) (0 : Fin 1) launch0 (osem := osem0) ownSemFacts0 defs₀ Variants.none m ρ main
    (hbody := fun c => (body_obligation m c).loose) (hshare := fun c => (dats m 0 c).share_full fun _ => rfl)
    (howed := fun _ _ => rfl) (V := V m) (hmain := hmainC m Variants.none) (hA := A_eq m) (R := R0)
    (hR := Finset.singleton_subset_iff.mpr (Pipeline.mem_restRefs_of main_v2 (by decide) (by decide))) (Y := Yend m)
    (hin := ends_in m) (hout := ends_out m)

/-- The run's end: the arguments as launched, the result at its values, every semaphore at zero. -/
theorem run_end : θ_run defs (onTc (τ := τ) (main (F := F))) ⟨m, fun _ => 0, ρ⟩ (fun r => (∀ c : Dev nD,
      r.2.mem ((c.tc : Thread nD τ).loc main_v2) = Yout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      ((h.1 c).2.1 main_v2 (Finset.mem_singleton_self _)).trans (by unfold Yend; exact Function.update_self _ _ _),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2.2 main_arg2 (Finset.mem_sdiff.mpr ⟨Pipeline.mem_restRefs_of main_arg2 (by decide) (by decide), by decide⟩)).trans (V_main_arg2 m c),
      ((h.1 c).1 3).trans (((dats m 0 c).arrAt_in 3 rfl _).trans ((A_eq m c 3).trans (V_main_arg3 m c))),
      ((h.1 c).2.2 main_arg4 (Finset.mem_sdiff.mpr ⟨Pipeline.mem_restRefs_of main_arg4 (by decide) (by decide), by decide⟩)).trans (V_main_arg4 m c)⟩, h.2⟩)
    (run_main m ρ)

/-- The frame: the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_end m ρ)

end Cert.KernelIdeal.Hand

end
-- ==== Proof.Same.lean ====
/-
  The kernel's program and the one read at the ideal instance are the same program, so its frame is that one's.
-/
module

public import proofs.«01_k».proof.Defs
public import proofs.«01_k».proof.Proof.Frame
public import proofs.«01_k».proof.Proof.Gen.Kernel
public import proofs.«01_k».proof.Proof.Gen.KernelIdeal
public import proofs.«01_k».proof.Proof.Gen.Kernel.Frame

@[expose] public section
noncomputable section
namespace Cert.Proof
open Idealize.ShloMosaic Idealize.ShloMosaic.TcCoe Idealize.SL.Sem

/-- The frame claim of the kernel is the same claim of the program read at the ideal instance, at the bits. -/
theorem quiescent_eq : @Cert.quiescent_Kernel Cert.Kernel.Gen.facts = (∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)) := by
  chain_rfl
/-- The frame of the kernel. -/
theorem quiescent : @Cert.quiescent_Kernel Cert.Kernel.Gen.facts :=
  quiescent_eq.mpr (fun m g _ => Cert.KernelIdeal.Hand.frame (F := Bits) m g)
end Cert.Proof
end
-- ==== Proof.Spec.lean ====
/-
  The convolution written out: the image doubled in both directions and framed with zeros, nine products summed, the
  bias added.
-/
module

public import proofs.«01_k».proof.Proof.Gen.ReferenceIdeal.Value
public import Idealize.ShloMosaic.Lib.Pipeline
public import Idealize.ShloMosaic.Lib.ValueIdx
public import Idealize.ShloMosaic.Lib.MatmulPlain

@[expose] public section

noncomputable section

namespace Cert.Spec

open Idealize.ShloMosaic
open Cert.ReferenceIdeal
open scoped BigOperators

variable (x : Vec Ideal S12x16x32x256 .fp8e4m3) (xs : Vec Ideal S12x16x32 .f32)
variable (w : Vec Ideal S3x3x256x384 .fp8e4m3) (ws : Vec Ideal S2x384 .f32) (bias : Vec Ideal S384 .f32)

/-- A dequantised pixel. -/
def X (b : Fin 12) (i : Fin 16) (j : Fin 32) (k : Fin 256) : EReal :=
  x (ValueIdx.ix4 b i j k) * xs (ValueIdx.ix3 b i j)
/-- The image framed with zeros: pixel `(r - 1, c - 1)`, or zero outside. -/
def U (b : Fin 12) (r c : ℕ) (k : Fin 256) : EReal :=
  if h : (1 ≤ r ∧ r ≤ 16) ∧ (1 ≤ c ∧ c ≤ 32) then X x xs b ⟨r - 1, by omega⟩ ⟨c - 1, by omega⟩ k else 0
/-- A dequantised weight. -/
def W (ky kx : Fin 3) (k : Fin 256) (o : Fin 384) : EReal :=
  w (ValueIdx.ix4 ky kx k o) * ws (ValueIdx.ix2 ⟨k.val / 128, by omega⟩ o)
/-- One tap's product at a framed pixel. -/
def T (ky kx : Fin 3) (b : Fin 12) (r c : ℕ) (o : Fin 384) : EReal :=
  ∑ k : Fin 256, U x xs b r c k * W w ws ky kx k o
/-- The result at image `b`, row `r`, column `c`, channel `o`. -/
def Z (b : Fin 12) (r : Fin 32) (c : Fin 64) (o : Fin 384) : EReal :=
  (∑ ky : Fin 3, ∑ kx : Fin 3, T x xs w ws ky kx b ((r.val + ky.val + 1) / 2) ((c.val + kx.val + 1) / 2) o) + bias (ValueIdx.ix1 o)

/-- Inside the frame. -/
theorem U_in (b : Fin 12) (i : Fin 16) (j : Fin 32) (k : Fin 256) (r c : ℕ) (hr : r = i.val + 1) (hc : c = j.val + 1) :
    U x xs b r c k = X x xs b i j k := by
  subst hr hc
  exact dif_pos ⟨⟨by omega, by omega⟩, ⟨by omega, by omega⟩⟩
/-- Outside it. -/
theorem U_out (b : Fin 12) (r c : ℕ) (k : Fin 256) (h : ¬((1 ≤ r ∧ r ≤ 16) ∧ (1 ≤ c ∧ c ≤ 32))) : U x xs b r c k = 0 := dif_neg h
/-- A tap's product outside the frame. -/
theorem T_out (ky kx : Fin 3) (b : Fin 12) (r c : ℕ) (o : Fin 384) (h : ¬((1 ≤ r ∧ r ≤ 16) ∧ (1 ≤ c ∧ c ≤ 32))) :
    T x xs w ws ky kx b r c o = 0 :=
  Finset.sum_eq_zero fun k _ => by rw [U_out x xs b r c k h]; exact zero_mul _
/-- The nine products one by one. -/
theorem Z_eq (b : Fin 12) (r : Fin 32) (c : Fin 64) (o : Fin 384) :
    Z x xs w ws bias b r c o
      = ((T x xs w ws 0 0 b ((r.val + 1) / 2) ((c.val + 1) / 2) o + T x xs w ws 0 1 b ((r.val + 1) / 2) ((c.val + 2) / 2) o
          + T x xs w ws 0 2 b ((r.val + 1) / 2) ((c.val + 3) / 2) o)
        + (T x xs w ws 1 0 b ((r.val + 2) / 2) ((c.val + 1) / 2) o + T x xs w ws 1 1 b ((r.val + 2) / 2) ((c.val + 2) / 2) o
          + T x xs w ws 1 2 b ((r.val + 2) / 2) ((c.val + 3) / 2) o)
        + (T x xs w ws 2 0 b ((r.val + 3) / 2) ((c.val + 1) / 2) o + T x xs w ws 2 1 b ((r.val + 3) / 2) ((c.val + 2) / 2) o
          + T x xs w ws 2 2 b ((r.val + 3) / 2) ((c.val + 3) / 2) o)) + bias (ValueIdx.ix1 o) := by
  unfold Z
  rw [Fin.sum_univ_three, Fin.sum_univ_three, Fin.sum_univ_three, Fin.sum_univ_three]
  rfl

/-! ## Two pieces side by side -/

section Cat
variable {α : Type} {s₁ s₂ t : Shape}

/-- An index of the first piece. -/
theorem cat_first (a : Fin t.rank) (x₁ : s₁.Idx → α) (x₂ : s₂.Idx → α)
    (h : Shape.Concatenates ([(⟨s₁, x₁⟩ : (s : Shape) × (s.Idx → α)), ⟨s₂, x₂⟩].map (·.1)) t a) (j : t.Idx) (hr : s₁.rank = t.rank)
    (i : s₁.Idx) (hi : ∀ b : Fin s₁.rank, (i b).val = (j (b.cast hr)).val) :
    concatenate t a [⟨s₁, x₁⟩, ⟨s₂, x₂⟩] h j = x₁ i :=
  concatenate_apply_piece a _ h j 0 (by simp) s₁ x₁ rfl hr 0 rfl i (fun b _ => hi b) (by rw [Nat.zero_add]; exact hi _)

/-- An index of the second piece. -/
theorem cat_second (a : Fin t.rank) (x₁ : s₁.Idx → α) (x₂ : s₂.Idx → α)
    (h : Shape.Concatenates ([(⟨s₁, x₁⟩ : (s : Shape) × (s.Idx → α)), ⟨s₂, x₂⟩].map (·.1)) t a) (j : t.Idx) (hr₁ : s₁.rank = t.rank)
    (hr : s₂.rank = t.rank) (i : s₂.Idx) (hi : ∀ b : Fin s₂.rank, b.cast hr ≠ a → (i b).val = (j (b.cast hr)).val)
    (ha : s₁.size (a.cast hr₁.symm) + (i (a.cast hr.symm)).val = (j a).val) :
    concatenate t a [⟨s₁, x₁⟩, ⟨s₂, x₂⟩] h j = x₂ i :=
  concatenate_apply_piece a _ h j 1 (by simp) s₂ x₂ rfl hr (s₁.size (a.cast hr₁.symm)) (by simp [hr₁]) i hi ha

end Cat

/-- Zero as the reference pads with it. -/
theorem pad_zero : (Scalar.sitofp .bf16 0#32 : Ideal .bf16) = (0 : EReal) := by
  show (((0#32 : BitVec 32).toInt : ℝ) : EReal) = 0
  simp

end Cert.Spec

end
-- ==== Proof.KerValue.lean ====
/-
  The kernel's output tile at an index, over the exact numbers.
-/
module

public import proofs.«01_k».proof.Proof.Steps
public import proofs.«01_k».proof.Proof.Spec
public import Idealize.ShloMosaic.Lib.ValueIdx
public import Idealize.ShloMosaic.Lib.MatmulPlain
public import Idealize.ShloMosaic.Lib.KernelVsHost

@[expose] public section

noncomputable section

namespace Cert.KernelIdeal.Hand

open Cert.KernelIdeal
open Idealize.ShloMosaic
open VecWindow (window put)
open Facts₀
open scoped BigOperators

/-! ## The dot's operands -/

/-- A dequantised row at a pixel. -/
theorem rowF_apply (xs : Vec Ideal S1x16x32 .f32) (x : Vec Ideal S1x16x32x256 .fp8e4m3) (i : Fin 16) (kb : Fin 2) (p : Fin 32) (l : Fin 128)
    (k : Fin 256) (hk : k.val = 128 * kb.val + l.val) :
    rowF xs x i kb (ValueIdx.ix4 (0 : Fin 1) (0 : Fin 1) p l)
      = (x (ValueIdx.ix4 (0 : Fin 1) i p k) * xs (ValueIdx.ix3 (0 : Fin 1) i p) : EReal) := by
  unfold rowF prepVal
  refine Eq.trans (shapeCast_apply _ _ _ (ValueIdx.ix2 p l) (by
    rw [Shape.rowMajor_val_two, Shape.rowMajor_val_four]
    show p.val * 128 + l.val = ((0 * 1 + 0) * 32 + p.val) * 128 + l.val; omega)) ?_
  refine congrArg₂ (fun a b : EReal => a * b) ?_ ?_
  · show shapeCast S32x128 (window x (xOff i kb) S1x1x32x128.size (xOff_inb i kb)) _ (ValueIdx.ix2 p l) = _
    refine Eq.trans (shapeCast_apply _ _ _ (ValueIdx.ix4 (0 : Fin 1) (0 : Fin 1) p l) (by
      rw [Shape.rowMajor_val_two, Shape.rowMajor_val_four]
      show ((0 * 1 + 0) * 32 + p.val) * 128 + l.val = p.val * 128 + l.val; omega)) ?_
    refine window_at x _ _ fun a => ?_
    fin_cases a
    · rfl
    · show i.val = i.val + 0; rfl
    · show p.val = 0 + p.val; omega
    · exact hk
  · unfold rowScale scales
    refine Eq.trans (broadcastTo_apply _ _ _ (ValueIdx.ix2 p (0 : Fin 1)) (fun a => by fin_cases a <;> rfl)) ?_
    refine Eq.trans (shapeCast_apply _ _ _ (ValueIdx.ix2 p (0 : Fin 1)) rfl) ?_
    refine Eq.trans (extractStridedSlice_apply _ _ _ _ (ValueIdx.ix2 p i) (fun a => by
      fin_cases a
      · show p.val = 0 + p.val; omega
      · rfl)) ?_
    refine Eq.trans (transpose_apply _ _ _ _ (ValueIdx.ix2 i p) (fun a => by fin_cases a <;> rfl)) ?_
    exact shapeCast_apply _ _ _ (ValueIdx.ix3 (0 : Fin 1) i p) (by
      rw [Shape.rowMajor_val_two, Shape.rowMajor_val_three]
      show (0 * 16 + i.val) * 32 + p.val = i.val * 32 + p.val; omega)

/-- Four pieces one above the other, at a row of piece `t`. -/
theorem cat4_apply (f : Fin 4 → FVec Ideal S8x128 .f32) (t : Fin 4) (s : Fin 8) (l : Fin 128) :
    concatenate S32x128 0 [⟨S8x128, f 0⟩, ⟨S8x128, f 1⟩, ⟨S8x128, f 2⟩, ⟨S8x128, f 3⟩]
      concatenates_S8x128_S8x128_S8x128_S8x128_S32x128_d0 (ValueIdx.ix2 (⟨8 * t.val + s.val, by omega⟩ : Fin 32) l) = f t (ValueIdx.ix2 s l) := by
  refine concatenate_apply_piece (0 : Fin 2) [⟨S8x128, f 0⟩, ⟨S8x128, f 1⟩, ⟨S8x128, f 2⟩, ⟨S8x128, f 3⟩] _ (ValueIdx.ix2 (⟨8 * t.val + s.val, by omega⟩ : Fin 32) l) t.val (by show t.val < 4; omega) S8x128 (f t) (by match t with | 0 | 1 | 2 | 3 => rfl) rfl (8 * t.val)
    (by match t with | 0 | 1 | 2 | 3 => rfl) (ValueIdx.ix2 s l) (fun a ha => ?_) rfl
  fin_cases a
  · exact absurd rfl ha
  · rfl

/-- The dot's operand at row `32 i + 8 t + s`: pixel `4 s + t` of row `i`. -/
theorem imgB_apply (xs : Vec Ideal S1x16x32 .f32) (x : Vec Ideal S1x16x32x256 .fp8e4m3) (i : Fin 16) (t : Fin 4) (s : Fin 8) (k : Fin 256)
    (q : Fin 512) (hq : q.val = 32 * i.val + (8 * t.val + s.val)) :
    imgB xs x (ValueIdx.ix2 q k)
      = (x (ValueIdx.ix4 (0 : Fin 1) i (⟨4 * s.val + t.val, by omega⟩ : Fin 32) k)
          * xs (ValueIdx.ix3 (0 : Fin 1) i (⟨4 * s.val + t.val, by omega⟩ : Fin 32)) : EReal) := by
  have hi : (⟨q.val / 32, by have := q.isLt; omega⟩ : Fin 16) = i := Fin.ext (by show q.val / 32 = i.val; omega)
  have hp : (⟨q.val % 32, Nat.mod_lt _ (by decide)⟩ : Fin 32) = ⟨8 * t.val + s.val, by omega⟩ := Fin.ext (by show q.val % 32 = 8 * t.val + s.val; omega)
  show rowB xs x ⟨q.val / 32, _⟩ ⟨k.val / 128, _⟩ (ValueIdx.ix2 (⟨q.val % 32, _⟩ : Fin 32) (⟨k.val % 128, _⟩ : Fin 128)) = _
  rw [hi, hp]
  unfold rowB xbVal
  refine Eq.trans (shapeCast_apply _ _ _ _ rfl) ?_
  refine Eq.trans (cat4_apply (rowQ xs x i ⟨k.val / 128, by omega⟩) t s _) ?_
  exact rowF_apply xs x i ⟨k.val / 128, by omega⟩ ⟨4 * s.val + t.val, by omega⟩ ⟨k.val % 128, Nat.mod_lt _ (by decide)⟩ k
    (by show k.val = 128 * (k.val / 128) + k.val % 128; omega)

/-- The row of the nine kernel taps is one of nine. -/
theorem tapRow_lt : ∀ t : Fin 9, tapRow t.val < 9 := by decide +kernel
/-- What the fill reads for a tap's tile. -/
theorem blk_off : ∀ (g : Fin 3) (t : Fin 9) (kb : Fin 2), fwOff (blk g t kb) 0 = tapRow t.val ∧ fwOff (blk g t kb) 1 = 128 * kb.val
    ∧ fwOff (blk g t kb) 2 = 128 * g.val ∧ fsOff (blk g t kb) 0 = kb.val ∧ fsOff (blk g t kb) 1 = 128 * g.val := by decide +kernel

/-- A tap's weights for a group, at channel `128 g + z`. -/
theorem tapW_apply (w9 : Vec Ideal S9x256x384 .fp8e4m3) (ws : Vec Ideal S2x384 .f32) (g : Fin 3) (t : Fin 9) (k : Fin 256) (z : Fin 128)
    (o : Fin 384) (ho : o.val = 128 * g.val + z.val) :
    tapW w9 ws g t (ValueIdx.ix3 (0 : Fin 1) k z)
      = (w9 (ValueIdx.ix3 (⟨tapRow t.val, tapRow_lt t⟩ : Fin 9) k o) * ws (ValueIdx.ix2 (⟨k.val / 128, by omega⟩ : Fin 2) o) : EReal) := by
  show fillVal w9 ws (blk g t ⟨k.val / 128, _⟩) (ValueIdx.ix3 (0 : Fin 1) (⟨k.val % 128, _⟩ : Fin 128) z) = _
  obtain ⟨e0, e1, e2, f0, f1⟩ := blk_off g t ⟨k.val / 128, by omega⟩
  generalize blk g t ⟨k.val / 128, _⟩ = n at *
  unfold fillVal tileVal
  refine Eq.trans (shapeCast_apply _ _ _ (ValueIdx.ix2 (⟨k.val % 128, Nat.mod_lt _ (by decide)⟩ : Fin 128) z) (by
    rw [Shape.rowMajor_val_two, Shape.rowMajor_val_three]
    show k.val % 128 * 128 + z.val = (0 * 128 + k.val % 128) * 128 + z.val; omega)) ?_
  refine congrArg₂ (fun a b : EReal => a * b) ?_ ?_
  · show shapeCast S128x128 (window w9 (fwOff n) S1x128x128.size (fwOff_inb n)) _ _ = _
    refine Eq.trans (shapeCast_apply _ _ _ (ValueIdx.ix3 (0 : Fin 1) (⟨k.val % 128, Nat.mod_lt _ (by decide)⟩ : Fin 128) z) (by
      rw [Shape.rowMajor_val_two, Shape.rowMajor_val_three]
      show (0 * 128 + k.val % 128) * 128 + z.val = k.val % 128 * 128 + z.val; omega)) ?_
    refine window_at w9 _ _ fun a => ?_
    match a with
    | ⟨0, _⟩ => show tapRow t.val = fwOff n 0 + 0; omega
    | ⟨1, _⟩ => show k.val = fwOff n 1 + k.val % 128; rw [e1]; show k.val = 128 * (k.val / 128) + k.val % 128; omega
    | ⟨2, _⟩ => show o.val = fwOff n 2 + z.val; omega
  · refine Eq.trans (broadcastTo_apply _ _ _ (ValueIdx.ix2 (0 : Fin 1) z) (fun a => by fin_cases a <;> rfl)) ?_
    refine window_at ws _ _ fun a => ?_
    match a with
    | ⟨0, _⟩ => show k.val / 128 = fsOff n 0 + 0; rw [f0]; rfl
    | ⟨1, _⟩ => show o.val = fsOff n 1 + z.val; omega

/-- A tap's dot at row `i`, place `q`. -/
theorem dotP_apply (X : Vec Ideal S512x256 .bf16) (W : Vec Ideal S1x256x128 .bf16) (i : Fin 16) (q : Fin 32) (z : Fin 128) :
    dotP X W (ValueIdx.ix3 i q z)
      = ∑ k : Fin 256, (X (ValueIdx.ix2 (⟨32 * i.val + q.val, by omega⟩ : Fin 512) k) * W (ValueIdx.ix3 (0 : Fin 1) k z) : EReal) := by
  unfold dotP
  refine Eq.trans (shapeCast_apply _ _ _ (ValueIdx.ix2 (⟨32 * i.val + q.val, by omega⟩ : Fin 512) z) (by
    rw [Shape.rowMajor_val_two, Shape.rowMajor_val_three]
    show (32 * i.val + q.val) * 128 + z.val = (i.val * 32 + q.val) * 128 + z.val; omega)) ?_
  refine Eq.trans (Ideal.matmul_plain_apply (M := 512) (K := 256) (N := 128) (φ₁ := .bf16) (φ₂ := .bf16) none _ _ _ _ z) ?_
  rw [show (constant S512x128 .f32 0x00000000#32 : FVec Ideal S512x128 .f32) (ValueIdx.ix2 (⟨32 * i.val + q.val, by omega⟩ : Fin 512) z) = (0 : EReal)
    from Ideal.ofBits_zero_f32, zero_add]
  refine Finset.sum_congr rfl fun k _ => congrArg (X _ * ·) ?_
  exact shapeCast_apply _ _ _ (ValueIdx.ix3 (0 : Fin 1) k z) (by
    rw [Shape.rowMajor_val_two, Shape.rowMajor_val_three]
    show (0 * 256 + k.val) * 128 + z.val = k.val * 128 + z.val; omega)

/-! ## The row taps -/

/-- Zero as the kernel pads with it. -/
theorem zero_f32 : (Scalar.ofBits .f32 0x00000000#32 : Ideal .f32) = (0 : EReal) := Ideal.ofBits_zero_f32

/-- The row above through a tap, zero above the first. -/
theorem vEven_apply (a b c : FVec Ideal S16x32x128 .f32) (i : Fin 16) (q : Fin 32) (z : Fin 128) (A : EReal)
    (h0 : i.val = 0 → A = 0) (h1 : ∀ h : i.val ≠ 0, A = a (ValueIdx.ix3 (⟨i.val - 1, by omega⟩ : Fin 16) q z)) :
    vEven a b c (ValueIdx.ix3 i q z) = (A + (b (ValueIdx.ix3 i q z) + c (ValueIdx.ix3 i q z)) : EReal) := by
  unfold vEven
  refine congrArg (fun e : EReal => e + (b (ValueIdx.ix3 i q z) + c (ValueIdx.ix3 i q z))) ?_
  by_cases h : i.val = 0
  · rw [h0 h]
    refine Eq.trans (Cert.Spec.cat_first 0 zeroRow _ _ _ (by rfl) (ValueIdx.ix3 (0 : Fin 1) q z) (fun d => by
      fin_cases d <;> first | rfl | exact h.symm)) ?_
    exact zero_f32
  · rw [h1 h]
    refine Eq.trans (Cert.Spec.cat_second (s₁ := S1x32x128) (s₂ := S15x32x128) 0 _ _ _ _ (by rfl) (by rfl) (ValueIdx.ix3 (⟨i.val - 1, by omega⟩ : Fin 15) q z) (fun d hd => by
      fin_cases d <;> first | rfl | exact absurd rfl hd) (by show 1 + (i.val - 1) = i.val; omega)) ?_
    exact extractStridedSlice_apply _ _ _ _ _ (fun d => by fin_cases d <;> exact (Nat.zero_add _).symm)

/-- The row below through a tap, zero below the last. -/
theorem vOdd_apply (a b c : FVec Ideal S16x32x128 .f32) (i : Fin 16) (q : Fin 32) (z : Fin 128) (C : EReal)
    (h0 : i.val = 15 → C = 0) (h1 : ∀ h : i.val ≠ 15, C = c (ValueIdx.ix3 (⟨i.val + 1, by omega⟩ : Fin 16) q z)) :
    vOdd a b c (ValueIdx.ix3 i q z) = ((a (ValueIdx.ix3 i q z) + b (ValueIdx.ix3 i q z)) + C : EReal) := by
  unfold vOdd
  refine congrArg (fun e : EReal => (a (ValueIdx.ix3 i q z) + b (ValueIdx.ix3 i q z)) + e) ?_
  by_cases h : i.val = 15
  · rw [h0 h]
    refine Eq.trans (Cert.Spec.cat_second (s₁ := S15x32x128) 0 _ zeroRow _ _ (by rfl) (by rfl) (ValueIdx.ix3 (0 : Fin 1) q z) (fun d hd => by
      fin_cases d <;> first | rfl | exact absurd rfl hd) (by show 15 + 0 = i.val; omega)) ?_
    exact zero_f32
  · rw [h1 h]
    refine Eq.trans (Cert.Spec.cat_first (s₁ := S15x32x128) 0 _ _ _ _ (by rfl) (ValueIdx.ix3 (⟨i.val, by omega⟩ : Fin 15) q z) (fun d => by
      fin_cases d <;> rfl)) ?_
    exact extractStridedSlice_apply _ _ _ _ _ (fun d => by
      fin_cases d
      · show i.val + 1 = 1 + i.val; omega
      · exact (Nat.zero_add _).symm
      · exact (Nat.zero_add _).symm)

/-- Row `i` of an image at a place. -/
theorem imgRow_apply (v : FVec Ideal S16x32x128 .f32) (i : Fin 16) (q : Fin 32) (z : Fin 128) :
    imgRow v i (ValueIdx.ix2 q z) = v (ValueIdx.ix3 i q z) := by
  unfold imgRow
  refine Eq.trans (shapeCast_apply _ _ _ (ValueIdx.ix3 (0 : Fin 1) q z) (by
    rw [Shape.rowMajor_val_two, Shape.rowMajor_val_three]
    show (0 * 32 + q.val) * 128 + z.val = q.val * 128 + z.val; omega)) ?_
  exact extractStridedSlice_apply _ _ _ _ _ (fun d => by
    fin_cases d
    · rfl
    · exact (Nat.zero_add _).symm
    · exact (Nat.zero_add _).symm)

/-! ## The column taps -/

/-- Eight rows of a slice at a place. -/
theorem part_apply (n : ℕ) (v : FVec Ideal S32x128 .f32) (h : S32x128.Slices ![n, 0] S8x128) (s : Fin 8) (z : Fin 128) (q : Fin 32) (hq : q.val = n + s.val) :
    extractStridedSlice S8x128 ![n, 0] v h (ValueIdx.ix2 s z) = v (ValueIdx.ix2 q z) :=
  extractStridedSlice_apply _ _ _ _ _ (fun d => by
    fin_cases d
    · exact hq
    · exact (Nat.zero_add _).symm)

/-- The sublane number at a place. -/
theorem lanes_apply (s : Fin 8) (z : Fin 128) : lanes (ValueIdx.ix2 s z) = BitVec.ofNat 32 s.val := by
  show BitVec.ofNat 32 (0 * 8 + s.val) = _
  rw [Nat.zero_mul, Nat.zero_add]

/-- The sublanes equal to a number. -/
theorem lane_eq : ∀ (s : Fin 8), (Scalar.cmpi .eq (BitVec.ofNat 32 s.val) (0#32 : BitVec 32) = if s.val = 0 then 1#1 else 0#1)
    ∧ (Scalar.cmpi .eq (BitVec.ofNat 32 s.val) (7#32 : BitVec 32) = if s.val = 7 then 1#1 else 0#1) := by decide +kernel

/-- The previous pixel of residue 0's, zero before the first. -/
theorem prevOf_apply (l : FVec Ideal S32x128 .f32) (s : Fin 8) (z : Fin 128) (L : EReal) (h0 : s.val = 0 → L = 0)
    (h1 : ∀ h : s.val ≠ 0, L = l (ValueIdx.ix2 (⟨24 + (s.val - 1), by omega⟩ : Fin 32) z)) :
    prevOf l (ValueIdx.ix2 s z) = L := by
  unfold prevOf
  show Scalar.select (Scalar.cmpi .eq (lanes (ValueIdx.ix2 s z)) (0#32 : BitVec 32)) (Scalar.ofBits .f32 0x00000000#32 : Ideal .f32)
    (dynamicRotate 0 (1#32 : BitVec 32) none _ _ (ValueIdx.ix2 s z)) = L
  refine Eq.trans (congrArg (fun c => Scalar.select c _ _) ((congrArg (fun w => Scalar.cmpi .eq w (0#32 : BitVec 32)) (lanes_apply s z)).trans (lane_eq s).1)) ?_
  by_cases h : s.val = 0
  · rw [if_pos h, h0 h]; exact zero_f32
  · rw [if_neg h, h1 h]
    refine Eq.trans (ValueIdx.select_zero _ _) ?_
    refine Eq.trans (dynamicRotate_apply (0 : Fin 2) _ _ _ _ (ValueIdx.ix2 (⟨s.val - 1, by omega⟩ : Fin 8) z) (fun d => by
      match d with
      | ⟨0, _⟩ => show s.val - 1 = (s.val + 8 - 1 % 8) % 8; omega
      | ⟨1, _⟩ => rfl)) ?_
    exact part_apply 24 l _ _ z _ rfl

/-- The next pixel of residue 3's, zero after the last. -/
theorem nextOf_apply (r : FVec Ideal S32x128 .f32) (s : Fin 8) (z : Fin 128) (R : EReal) (h0 : s.val = 7 → R = 0)
    (h1 : ∀ h : s.val ≠ 7, R = r (ValueIdx.ix2 (⟨s.val + 1, by omega⟩ : Fin 32) z)) :
    nextOf r (ValueIdx.ix2 s z) = R := by
  unfold nextOf
  show Scalar.select (Scalar.cmpi .eq (lanes (ValueIdx.ix2 s z)) (7#32 : BitVec 32)) (Scalar.ofBits .f32 0x00000000#32 : Ideal .f32)
    (dynamicRotate 0 (7#32 : BitVec 32) none _ _ (ValueIdx.ix2 s z)) = R
  refine Eq.trans (congrArg (fun c => Scalar.select c _ _) ((congrArg (fun w => Scalar.cmpi .eq w (7#32 : BitVec 32)) (lanes_apply s z)).trans (lane_eq s).2)) ?_
  by_cases h : s.val = 7
  · rw [if_pos h, h0 h]; exact zero_f32
  · rw [if_neg h, h1 h]
    refine Eq.trans (ValueIdx.select_zero _ _) ?_
    refine Eq.trans (dynamicRotate_apply (0 : Fin 2) _ _ _ _ (ValueIdx.ix2 (⟨s.val + 1, by omega⟩ : Fin 8) z) (fun d => by
      match d with
      | ⟨0, _⟩ => show s.val + 1 = (s.val + 8 - 7 % 8) % 8; omega
      | ⟨1, _⟩ => rfl)) ?_
    exact part_apply 0 r _ _ z _ (Nat.zero_add _).symm

/-- Centre pixels with the bias, at a place. -/
theorem midOf_apply (m : FVec Ideal S8x128 .f32) (b : FVec Ideal S1x128 .f32) (s : Fin 8) (z : Fin 128) :
    midOf m b (ValueIdx.ix2 s z) = (m (ValueIdx.ix2 s z) + b (ValueIdx.ix2 (0 : Fin 1) z) : EReal) := by
  unfold midOf
  exact congrArg (fun e : EReal => m (ValueIdx.ix2 s z) + e)
    (broadcastTo_apply _ _ _ (ValueIdx.ix2 (0 : Fin 1) z) (fun a => by fin_cases a <;> rfl))

/-- The even output pixel at a place, -/
theorem pEven_apply (l m r : FVec Ideal S8x128 .f32) (s : Fin 8) (z : Fin 128) :
    pEven l m r (ValueIdx.ix3 s (0 : Fin 1) z) = (l (ValueIdx.ix2 s z) + (m (ValueIdx.ix2 s z) + r (ValueIdx.ix2 s z)) : EReal) := by
  unfold pEven
  exact shapeCast_apply _ _ _ (ValueIdx.ix2 s z) (by
    rw [Shape.rowMajor_val_two, Shape.rowMajor_val_three]
    show s.val * 128 + z.val = (s.val * 1 + 0) * 128 + z.val; omega)
/-- and the odd one. -/
theorem pOdd_apply (l m r : FVec Ideal S8x128 .f32) (s : Fin 8) (z : Fin 128) :
    pOdd l m r (ValueIdx.ix3 s (0 : Fin 1) z) = ((l (ValueIdx.ix2 s z) + m (ValueIdx.ix2 s z)) + r (ValueIdx.ix2 s z) : EReal) := by
  unfold pOdd
  exact shapeCast_apply _ _ _ (ValueIdx.ix2 s z) (by
    rw [Shape.rowMajor_val_two, Shape.rowMajor_val_three]
    show s.val * 128 + z.val = (s.val * 1 + 0) * 128 + z.val; omega)

/-- Eight pieces side by side, at column `n`. -/
theorem cat8_apply (f : Fin 8 → FVec Ideal S8x1x128 .bf16) (n : Fin 8) (s : Fin 8) (z : Fin 128) :
    concatenate S8x8x128 1 [⟨S8x1x128, f 0⟩, ⟨S8x1x128, f 1⟩, ⟨S8x1x128, f 2⟩, ⟨S8x1x128, f 3⟩, ⟨S8x1x128, f 4⟩, ⟨S8x1x128, f 5⟩, ⟨S8x1x128, f 6⟩,
        ⟨S8x1x128, f 7⟩] concatenates_S8x1x128_S8x1x128_S8x1x128_S8x1x128_S8x1x128_S8x1x128_S8x1x128_S8x1x128_S8x8x128_d1 (ValueIdx.ix3 s n z)
      = f n (ValueIdx.ix3 s (0 : Fin 1) z) := by
  refine concatenate_apply_piece (1 : Fin 3) [⟨S8x1x128, f 0⟩, ⟨S8x1x128, f 1⟩, ⟨S8x1x128, f 2⟩, ⟨S8x1x128, f 3⟩, ⟨S8x1x128, f 4⟩, ⟨S8x1x128, f 5⟩,
    ⟨S8x1x128, f 6⟩, ⟨S8x1x128, f 7⟩] _ (ValueIdx.ix3 s n z) n.val (by show n.val < 8; omega) S8x1x128 (f n) (by match n with | 0 | 1 | 2 | 3 | 4 | 5 | 6 | 7 => rfl) rfl n.val
    (by match n with | 0 | 1 | 2 | 3 | 4 | 5 | 6 | 7 => rfl) (ValueIdx.ix3 s (0 : Fin 1) z) (fun a ha => ?_) (Nat.add_zero _)
  fin_cases a
  · rfl
  · exact absurd rfl ha
  · rfl

/-- The eight pieces of an output row. -/
def cols (b : FVec Ideal S1x128 .f32) (l m r : FVec Ideal S32x128 .f32) : Fin 8 → FVec Ideal S8x1x128 .bf16 :=
  ![pEven (prevOf l) (midOf (s0 m) b) (s0 r), pOdd (s0 l) (midOf (s0 m) b) (s1 r), pEven (s0 l) (midOf (s1 m) b) (s1 r), pOdd (s1 l) (midOf (s1 m) b) (s2 r),
    pEven (s1 l) (midOf (s2 m) b) (s2 r), pOdd (s2 l) (midOf (s2 m) b) (s3 r), pEven (s2 l) (midOf (s3 m) b) (s3 r), pOdd (s3 l) (midOf (s3 m) b) (nextOf r)]

/-- One output row at column `c`: the left tap at framed column `(c + 1) / 2`, the centre at `(c + 2) / 2`, the right at `(c + 3) / 2`. -/
theorem rowOf_apply (b : FVec Ideal S1x128 .f32) (l m r : FVec Ideal S32x128 .f32) (z : Fin 128) (L M R : ℕ → EReal)
    (hl : ∀ (t : Fin 4) (s : Fin 8) (q : Fin 32), q.val = 8 * t.val + s.val → l (ValueIdx.ix2 q z) = L (4 * s.val + t.val + 1))
    (hm : ∀ (t : Fin 4) (s : Fin 8) (q : Fin 32), q.val = 8 * t.val + s.val → m (ValueIdx.ix2 q z) = M (4 * s.val + t.val + 1))
    (hr : ∀ (t : Fin 4) (s : Fin 8) (q : Fin 32), q.val = 8 * t.val + s.val → r (ValueIdx.ix2 q z) = R (4 * s.val + t.val + 1))
    (hL : L 0 = 0) (hR : R 33 = 0) (c : Fin 64) :
    rowOf b l m r (ValueIdx.ix5 (0 : Fin 1) (0 : Fin 1) (0 : Fin 1) c z)
      = L ((c.val + 1) / 2) + M ((c.val + 2) / 2) + R ((c.val + 3) / 2) + (b (ValueIdx.ix2 (0 : Fin 1) z) : EReal) := by
  have hpart : ∀ (v : FVec Ideal S32x128 .f32) (V : ℕ → EReal)
      (hv : ∀ (t : Fin 4) (s : Fin 8) (q : Fin 32), q.val = 8 * t.val + s.val → v (ValueIdx.ix2 q z) = V (4 * s.val + t.val + 1)) (s : Fin 8),
      s0 v (ValueIdx.ix2 s z) = V (4 * s.val + 1) ∧ s1 v (ValueIdx.ix2 s z) = V (4 * s.val + 2)
        ∧ s2 v (ValueIdx.ix2 s z) = V (4 * s.val + 3) ∧ s3 v (ValueIdx.ix2 s z) = V (4 * s.val + 4) := fun v V hv s =>
    ⟨(part_apply 0 v _ s z ⟨s.val, by omega⟩ (by show s.val = 0 + s.val; omega)).trans (hv 0 s _ (by show s.val = 8 * 0 + s.val; omega)),
     (part_apply 8 v _ s z ⟨8 + s.val, by omega⟩ rfl).trans (hv 1 s _ rfl),
     (part_apply 16 v _ s z ⟨16 + s.val, by omega⟩ rfl).trans (hv 2 s _ rfl),
     (part_apply 24 v _ s z ⟨24 + s.val, by omega⟩ rfl).trans (hv 3 s _ rfl)⟩
  have hprev : ∀ s : Fin 8, prevOf l (ValueIdx.ix2 s z) = L (4 * s.val) := fun s =>
    prevOf_apply l s z _ (fun h => by rw [h]; exact hL) (fun h => by
      rw [hl 3 ⟨s.val - 1, by omega⟩ _ (by show 24 + (s.val - 1) = 8 * 3 + (s.val - 1); omega)]
      exact congrArg L (by show 4 * s.val = 4 * (s.val - 1) + 3 + 1; omega))
  have hnext : ∀ s : Fin 8, nextOf r (ValueIdx.ix2 s z) = R (4 * s.val + 5) := fun s =>
    nextOf_apply r s z _ (fun h => by rw [h]; exact hR) (fun h => by
      rw [hr 0 ⟨s.val + 1, by omega⟩ _ (by show s.val + 1 = 8 * 0 + (s.val + 1); omega)]
      exact congrArg R (by show 4 * s.val + 5 = 4 * (s.val + 1) + 0 + 1; omega))
  have key : ∀ (n s : Fin 8),
      cols b l m r n (ValueIdx.ix3 s (0 : Fin 1) z)
        = L (4 * s.val + (n.val + 1) / 2) + M (4 * s.val + (n.val + 2) / 2) + R (4 * s.val + (n.val + 3) / 2) + (b (ValueIdx.ix2 (0 : Fin 1) z) : EReal) := by
    intro n s
    obtain ⟨l0, l1, l2, l3⟩ := hpart l L hl s
    obtain ⟨m0, m1, m2, m3⟩ := hpart m M hm s
    obtain ⟨r0, r1, r2, r3⟩ := hpart r R hr s
    have even : ∀ (u v w : FVec Ideal S8x128 .f32) (x y t : EReal), u (ValueIdx.ix2 s z) = x → v (ValueIdx.ix2 s z) = y → w (ValueIdx.ix2 s z) = t →
        pEven u (midOf v b) w (ValueIdx.ix3 s (0 : Fin 1) z) = x + y + t + (b (ValueIdx.ix2 (0 : Fin 1) z) : EReal) := by
      intro u v w x y t hu hv hw
      rw [pEven_apply, midOf_apply, hu, hv, hw]; ac_rfl
    have odd : ∀ (u v w : FVec Ideal S8x128 .f32) (x y t : EReal), u (ValueIdx.ix2 s z) = x → v (ValueIdx.ix2 s z) = y → w (ValueIdx.ix2 s z) = t →
        pOdd u (midOf v b) w (ValueIdx.ix3 s (0 : Fin 1) z) = x + y + t + (b (ValueIdx.ix2 (0 : Fin 1) z) : EReal) := by
      intro u v w x y t hu hv hw
      rw [pOdd_apply, midOf_apply, hu, hv, hw]; ac_rfl
    match n with
    | 0 => exact even _ _ _ _ _ _ (hprev s) m0 r0
    | 1 => exact odd _ _ _ _ _ _ l0 m0 r1
    | 2 => exact even _ _ _ _ _ _ l0 m1 r1
    | 3 => exact odd _ _ _ _ _ _ l1 m1 r2
    | 4 => exact even _ _ _ _ _ _ l1 m2 r2
    | 5 => exact odd _ _ _ _ _ _ l2 m2 r3
    | 6 => exact even _ _ _ _ _ _ l2 m3 r3
    | 7 => exact odd _ _ _ _ _ _ l3 m3 (hnext s)
  unfold rowOf
  refine Eq.trans (shapeCast_apply _ _ _ (ValueIdx.ix2 c z) (by
    rw [Shape.rowMajor_val_two, Shape.rowMajor_val_five]
    show c.val * 128 + z.val = (((0 * 1 + 0) * 1 + 0) * 64 + c.val) * 128 + z.val; omega)) ?_
  refine Eq.trans (shapeCast_apply _ _ _ (ValueIdx.ix3 (⟨c.val / 8, by omega⟩ : Fin 8) (⟨c.val % 8, by omega⟩ : Fin 8) z) (by
    rw [Shape.rowMajor_val_two, Shape.rowMajor_val_three]
    show (c.val / 8 * 8 + c.val % 8) * 128 + z.val = c.val * 128 + z.val; omega)) ?_
  refine Eq.trans (cat8_apply (cols b l m r) ⟨c.val % 8, by omega⟩ ⟨c.val / 8, by omega⟩ z) ?_
  refine Eq.trans (key ⟨c.val % 8, by omega⟩ ⟨c.val / 8, by omega⟩) ?_
  have e1 : 4 * (c.val / 8) + (c.val % 8 + 1) / 2 = (c.val + 1) / 2 := by omega
  have e2 : 4 * (c.val / 8) + (c.val % 8 + 2) / 2 = (c.val + 2) / 2 := by omega
  have e3 : 4 * (c.val / 8) + (c.val % 8 + 3) / 2 = (c.val + 3) / 2 := by omega
  show L (4 * (c.val / 8) + (c.val % 8 + 1) / 2) + M (4 * (c.val / 8) + (c.val % 8 + 2) / 2) + R (4 * (c.val / 8) + (c.val % 8 + 3) / 2) + _ = _
  rw [e1, e2, e3]

/-! ## The output tile -/

/-- The three row taps of one column tap at output row `r`: framed rows `(r + 1) / 2`, `(r + 2) / 2`, `(r + 3) / 2`. -/
theorem taps_apply (p0 p1 p2 : FVec Ideal S16x32x128 .f32) (z : Fin 128) (P : Fin 3 → ℕ → ℕ → EReal)
    (h0 : ∀ (i : Fin 16) (t : Fin 4) (s : Fin 8) (q : Fin 32), q.val = 8 * t.val + s.val → p0 (ValueIdx.ix3 i q z) = P 0 (i.val + 1) (4 * s.val + t.val + 1))
    (h1 : ∀ (i : Fin 16) (t : Fin 4) (s : Fin 8) (q : Fin 32), q.val = 8 * t.val + s.val → p1 (ValueIdx.ix3 i q z) = P 1 (i.val + 1) (4 * s.val + t.val + 1))
    (h2 : ∀ (i : Fin 16) (t : Fin 4) (s : Fin 8) (q : Fin 32), q.val = 8 * t.val + s.val → p2 (ValueIdx.ix3 i q z) = P 2 (i.val + 1) (4 * s.val + t.val + 1))
    (hlo : ∀ c, P 0 0 c = 0) (hhi : ∀ c, P 2 17 c = 0) (r : Fin 32) (i : Fin 16) (hi : i.val = r.val / 2) (t : Fin 4) (s : Fin 8) (q : Fin 32)
    (hq : q.val = 8 * t.val + s.val) :
    imgRow (if r.val % 2 = 0 then vEven p0 p1 p2 else vOdd p0 p1 p2) i (ValueIdx.ix2 q z)
      = P 0 ((r.val + 1) / 2) (4 * s.val + t.val + 1) + P 1 ((r.val + 2) / 2) (4 * s.val + t.val + 1) + P 2 ((r.val + 3) / 2) (4 * s.val + t.val + 1) := by
  rw [imgRow_apply]
  by_cases h : r.val % 2 = 0
  · rw [if_pos h]
    rw [vEven_apply p0 p1 p2 i q z (P 0 i.val (4 * s.val + t.val + 1)) (fun e => by rw [e]; exact hlo _) (fun e => by
      rw [h0 _ t s q hq]; exact congrArg (fun n => P 0 n _) (by show i.val = i.val - 1 + 1; omega)),
      h1 i t s q hq, h2 i t s q hq, show (r.val + 1) / 2 = i.val by omega, show (r.val + 2) / 2 = i.val + 1 by omega,
      show (r.val + 3) / 2 = i.val + 1 by omega]
    exact (add_assoc _ _ _).symm
  · rw [if_neg h]
    rw [vOdd_apply p0 p1 p2 i q z (P 2 (i.val + 2) (4 * s.val + t.val + 1)) (fun e => by rw [e]; exact hhi _) (fun e => by
      rw [h2 _ t s q hq]),
      h0 i t s q hq, h1 i t s q hq, show (r.val + 1) / 2 = i.val + 1 by omega, show (r.val + 2) / 2 = i.val + 1 by omega,
      show (r.val + 3) / 2 = i.val + 2 by omega]

/-- The output tile at row `r`, column `c`, from the taps' products at framed pixels. -/
theorem outTile_apply (b : FVec Ideal S1x128 .f32) (p : Fin 9 → FVec Ideal S16x32x128 .f32) (z : Fin 128) (P : Fin 3 → Fin 3 → ℕ → ℕ → EReal)
    (hp : ∀ (ky kx : Fin 3) (n : Fin 9), tapRow n.val = 3 * ky.val + kx.val → ∀ (i : Fin 16) (t : Fin 4) (s : Fin 8) (q : Fin 32), q.val = 8 * t.val + s.val →
      p n (ValueIdx.ix3 i q z) = P ky kx (i.val + 1) (4 * s.val + t.val + 1))
    (hout : ∀ ky kx r c, ¬((1 ≤ r ∧ r ≤ 16) ∧ (1 ≤ c ∧ c ≤ 32)) → P ky kx r c = 0) (r : Fin 32) (c : Fin 64) :
    outTile b p (ValueIdx.ix3 r c z)
      = ((P 0 0 ((r.val + 1) / 2) ((c.val + 1) / 2) + P 0 1 ((r.val + 1) / 2) ((c.val + 2) / 2) + P 0 2 ((r.val + 1) / 2) ((c.val + 3) / 2))
        + (P 1 0 ((r.val + 2) / 2) ((c.val + 1) / 2) + P 1 1 ((r.val + 2) / 2) ((c.val + 2) / 2) + P 1 2 ((r.val + 2) / 2) ((c.val + 3) / 2))
        + (P 2 0 ((r.val + 3) / 2) ((c.val + 1) / 2) + P 2 1 ((r.val + 3) / 2) ((c.val + 2) / 2) + P 2 2 ((r.val + 3) / 2) ((c.val + 3) / 2)))
        + (b (ValueIdx.ix2 (0 : Fin 1) z) : EReal) := by
  have e : outTile b p (ValueIdx.ix3 r c z)
      = rowOf b (imgRow (if r.val % 2 = 0 then vEven (p 3) (p 4) (p 5) else vOdd (p 3) (p 4) (p 5)) ⟨r.val / 2, by omega⟩)
          (imgRow (if r.val % 2 = 0 then vEven (p 0) (p 1) (p 2) else vOdd (p 0) (p 1) (p 2)) ⟨r.val / 2, by omega⟩)
          (imgRow (if r.val % 2 = 0 then vEven (p 6) (p 7) (p 8) else vOdd (p 6) (p 7) (p 8)) ⟨r.val / 2, by omega⟩)
          (ValueIdx.ix5 (0 : Fin 1) (0 : Fin 1) (0 : Fin 1) c z) := by
    show rowVal b p ⟨r.val / 2, _⟩ ⟨r.val % 2, _⟩ _ = _
    unfold rowVal
    by_cases h : r.val % 2 = 0
    · rw [if_pos h, if_pos h, if_pos h, if_pos h]
    · rw [if_neg h, if_neg h, if_neg h, if_neg h]
  rw [e]
  have col : ∀ (kx : Fin 3) (n0 n1 n2 : Fin 9), tapRow n0.val = 3 * 0 + kx.val → tapRow n1.val = 3 * 1 + kx.val → tapRow n2.val = 3 * 2 + kx.val →
      ∀ (t : Fin 4) (s : Fin 8) (q : Fin 32), q.val = 8 * t.val + s.val →
      imgRow (if r.val % 2 = 0 then vEven (p n0) (p n1) (p n2) else vOdd (p n0) (p n1) (p n2)) ⟨r.val / 2, by omega⟩ (ValueIdx.ix2 q z)
        = (fun c => P 0 kx ((r.val + 1) / 2) c + P 1 kx ((r.val + 2) / 2) c + P 2 kx ((r.val + 3) / 2) c) (4 * s.val + t.val + 1) :=
    fun kx n0 n1 n2 e0 e1 e2 t s q hq => taps_apply (p n0) (p n1) (p n2) z (fun ky => P ky kx) (hp 0 kx n0 e0) (hp 1 kx n1 e1) (hp 2 kx n2 e2)
      (fun c => hout _ _ _ _ (by omega)) (fun c => hout _ _ _ _ (by omega)) r _ rfl t s q hq
  have zero : ∀ (kx : Fin 3) (c : ℕ), (c = 0 ∨ c = 33) → (fun c => P 0 kx ((r.val + 1) / 2) c + P 1 kx ((r.val + 2) / 2) c + P 2 kx ((r.val + 3) / 2) c) c = 0 := by
    intro kx c hc
    show P 0 kx _ c + P 1 kx _ c + P 2 kx _ c = 0
    rw [hout _ _ _ c (by omega), hout _ _ _ c (by omega), hout _ _ _ c (by omega), add_zero, add_zero]
  rw [rowOf_apply b _ _ _ z (fun c => P 0 0 ((r.val + 1) / 2) c + P 1 0 ((r.val + 2) / 2) c + P 2 0 ((r.val + 3) / 2) c)
    (fun c => P 0 1 ((r.val + 1) / 2) c + P 1 1 ((r.val + 2) / 2) c + P 2 1 ((r.val + 3) / 2) c)
    (fun c => P 0 2 ((r.val + 1) / 2) c + P 1 2 ((r.val + 2) / 2) c + P 2 2 ((r.val + 3) / 2) c) (col 0 3 4 5 rfl rfl rfl) (col 1 0 1 2 rfl rfl rfl) (col 2 6 7 8 rfl rfl rfl) (zero 0 0 (.inl rfl)) (zero 2 33 (.inr rfl)) c]
  ac_rfl

end Cert.KernelIdeal.Hand

end
-- ==== Proof.RefValue.lean ====
/-
  The reference's result at an index: the convolution written out.
-/
module

public import proofs.«01_k».proof.Proof.Spec

@[expose] public section

noncomputable section

namespace Cert.Spec

open Idealize.ShloMosaic
open Cert.ReferenceIdeal Cert.ReferenceIdeal.Gen Cert.ReferenceIdeal.Value
open scoped BigOperators

variable (x : Vec Ideal S12x16x32x256 .fp8e4m3) (xs : Vec Ideal S12x16x32 .f32)
variable (w : Vec Ideal S3x3x256x384 .fp8e4m3) (ws : Vec Ideal S2x384 .f32) (bias : Vec Ideal S384 .f32)

/-- The dequantised image. -/
def rX : FVec Ideal S12x16x32x256 .bf16 :=
  mulf (extf .bf16 x bitsLt_fp8e4m3_bf16) (broadcastTo S12x16x32x256 (truncf .bf16 (shapeCast S12x16x32x1 xs shapeCasts_S12x16x32_S12x16x32x1) bitsLt_bf16_f32)
    broadcasts_S12x16x32x1_S12x16x32x256)
/-- Its rows doubled, -/
def rRows : FVec Ideal S12x32x32x256 .bf16 :=
  shapeCast S12x32x32x256 (broadcastTo S12x16x2x32x256 (shapeCast S12x16x1x32x256 (rX x xs) shapeCasts_S12x16x32x256_S12x16x1x32x256)
    broadcasts_S12x16x1x32x256_S12x16x2x32x256) shapeCasts_S12x16x2x32x256_S12x32x32x256
/-- and its columns. -/
def rUp : FVec Ideal S12x32x64x256 .bf16 :=
  shapeCast S12x32x64x256 (broadcastTo S12x32x32x2x256 (shapeCast S12x32x32x1x256 (rRows x xs) shapeCasts_S12x32x32x256_S12x32x32x1x256)
    broadcasts_S12x32x32x1x256_S12x32x32x2x256) shapeCasts_S12x32x32x2x256_S12x32x64x256
/-- The zeros of the frame. -/
def z0 : Ideal .bf16 := Scalar.sitofp .bf16 0#32
/-- A zero row above, -/
def rA : FVec Ideal S12x33x64x256 .bf16 :=
  concatenate S12x33x64x256 1 [⟨S12x1x64x256, broadcast S12x1x64x256 z0⟩, ⟨S12x32x64x256, rUp x xs⟩] concatenates_S12x1x64x256_S12x32x64x256_S12x33x64x256_d1
/-- below, -/
def rB : FVec Ideal S12x34x64x256 .bf16 :=
  concatenate S12x34x64x256 1 [⟨S12x33x64x256, rA x xs⟩, ⟨S12x1x64x256, broadcast S12x1x64x256 z0⟩] concatenates_S12x33x64x256_S12x1x64x256_S12x34x64x256_d1
/-- a zero column before -/
def rC : FVec Ideal S12x34x65x256 .bf16 :=
  concatenate S12x34x65x256 2 [⟨S12x34x1x256, broadcast S12x34x1x256 z0⟩, ⟨S12x34x64x256, rB x xs⟩] concatenates_S12x34x1x256_S12x34x64x256_S12x34x65x256_d2
/-- and after. -/
def rD : FVec Ideal S12x34x66x256 .bf16 :=
  concatenate S12x34x66x256 2 [⟨S12x34x65x256, rC x xs⟩, ⟨S12x34x1x256, broadcast S12x34x1x256 z0⟩] concatenates_S12x34x65x256_S12x34x1x256_S12x34x66x256_d2

/-- The printed framed image is that. -/
theorem pay2_eq : k0_pay2 x xs = rD x xs := rfl

/-- The dequantised image at an index. -/
theorem rX_apply (b : Fin 12) (i : Fin 16) (j : Fin 32) (k : Fin 256) : rX x xs (ValueIdx.ix4 b i j k) = X x xs b i j k := by
  show x (ValueIdx.ix4 b i j k) * broadcastTo S12x16x32x256 _ _ (ValueIdx.ix4 b i j k) = x (ValueIdx.ix4 b i j k) * xs (ValueIdx.ix3 b i j)
  refine congrArg (x (ValueIdx.ix4 b i j k) * ·) ?_
  refine Eq.trans (broadcastTo_apply _ _ _ (ValueIdx.ix4 b i j (0 : Fin 1)) (fun a => by fin_cases a <;> rfl)) ?_
  exact shapeCast_apply xs _ _ (ValueIdx.ix3 b i j) (by
    rw [Shape.rowMajor_val_three, Shape.rowMajor_val_four]; show _ = (_ * 1 + 0 : ℕ); rw [Nat.mul_one, Nat.add_zero]; rfl)

/-- Row `r` of the rows doubled is row `r / 2`. -/
theorem rRows_apply (b : Fin 12) (r : Fin 32) (j : Fin 32) (k : Fin 256) :
    rRows x xs (ValueIdx.ix4 b r j k) = X x xs b ⟨r.val / 2, by omega⟩ j k := by
  refine Eq.trans (shapeCast_apply _ _ _ (ValueIdx.ix5 b (⟨r.val / 2, by omega⟩ : Fin 16) (⟨r.val % 2, by omega⟩ : Fin 2) j k) (by
    rw [Shape.rowMajor_val_five, Shape.rowMajor_val_four]
    show (((b.val * 16 + r.val / 2) * 2 + r.val % 2) * 32 + j.val) * 256 + k.val = ((b.val * 32 + r.val) * 32 + j.val) * 256 + k.val
    omega)) ?_
  refine Eq.trans (broadcastTo_apply _ _ _ (ValueIdx.ix5 b (⟨r.val / 2, by omega⟩ : Fin 16) (0 : Fin 1) j k) (fun a => by fin_cases a <;> rfl)) ?_
  refine Eq.trans (shapeCast_apply _ _ _ (ValueIdx.ix4 b (⟨r.val / 2, by omega⟩ : Fin 16) j k) (by
    rw [Shape.rowMajor_val_five, Shape.rowMajor_val_four]
    show ((b.val * 16 + r.val / 2) * 32 + j.val) * 256 + k.val = (((b.val * 16 + r.val / 2) * 1 + 0) * 32 + j.val) * 256 + k.val
    omega)) ?_
  exact rX_apply x xs b _ j k

/-- Row `r`, column `c` of the image doubled is row `r / 2`, column `c / 2`. -/
theorem rUp_apply (b : Fin 12) (r : Fin 32) (c : Fin 64) (k : Fin 256) :
    rUp x xs (ValueIdx.ix4 b r c k) = X x xs b ⟨r.val / 2, by omega⟩ ⟨c.val / 2, by omega⟩ k := by
  refine Eq.trans (shapeCast_apply _ _ _ (ValueIdx.ix5 b r (⟨c.val / 2, by omega⟩ : Fin 32) (⟨c.val % 2, by omega⟩ : Fin 2) k) (by
    rw [Shape.rowMajor_val_five, Shape.rowMajor_val_four]
    show (((b.val * 32 + r.val) * 32 + c.val / 2) * 2 + c.val % 2) * 256 + k.val = ((b.val * 32 + r.val) * 64 + c.val) * 256 + k.val
    omega)) ?_
  refine Eq.trans (broadcastTo_apply _ _ _ (ValueIdx.ix5 b r (⟨c.val / 2, by omega⟩ : Fin 32) (0 : Fin 1) k) (fun a => by fin_cases a <;> rfl)) ?_
  refine Eq.trans (shapeCast_apply _ _ _ (ValueIdx.ix4 b r (⟨c.val / 2, by omega⟩ : Fin 32) k) (by
    rw [Shape.rowMajor_val_five, Shape.rowMajor_val_four]
    show ((b.val * 32 + r.val) * 32 + c.val / 2) * 256 + k.val = (((b.val * 32 + r.val) * 32 + c.val / 2) * 1 + 0) * 256 + k.val
    omega)) ?_
  exact rRows_apply x xs b r _ k

/-- With a zero row above. -/
theorem rA_apply (b : Fin 12) (r : Fin 33) (c : Fin 64) (k : Fin 256) :
    rA x xs (ValueIdx.ix4 b r c k) = U x xs b ((r.val + 1) / 2) (c.val / 2 + 1) k := by
  by_cases h : r.val = 0
  · refine Eq.trans (cat_first 1 _ _ _ _ (by rfl) (ValueIdx.ix4 b (0 : Fin 1) c k) (fun a => by fin_cases a <;> first | rfl | exact h.symm)) ?_
    exact pad_zero.trans (U_out x xs b _ _ k (by omega)).symm
  · refine Eq.trans (cat_second 1 _ _ _ _ (by rfl) (by rfl) (ValueIdx.ix4 b (⟨r.val - 1, by omega⟩ : Fin 32) c k)
      (fun a ha => by fin_cases a <;> first | rfl | exact absurd rfl ha) (by show 1 + (r.val - 1) = r.val; omega)) ?_
    rw [rUp_apply, U_in x xs b ⟨(r.val - 1) / 2, by omega⟩ ⟨c.val / 2, by omega⟩ k _ _ (by show _ = (r.val - 1) / 2 + 1; omega) rfl]

/-- With a zero row below. -/
theorem rB_apply (b : Fin 12) (r : Fin 34) (c : Fin 64) (k : Fin 256) :
    rB x xs (ValueIdx.ix4 b r c k) = U x xs b ((r.val + 1) / 2) (c.val / 2 + 1) k := by
  by_cases h : r.val < 33
  · refine Eq.trans (cat_first 1 _ _ _ _ (by rfl) (ValueIdx.ix4 b (⟨r.val, h⟩ : Fin 33) c k) (fun a => by fin_cases a <;> rfl)) ?_
    exact rA_apply x xs b ⟨r.val, h⟩ c k
  · refine Eq.trans (cat_second 1 _ _ _ _ (by rfl) (by rfl) (ValueIdx.ix4 b (0 : Fin 1) c k)
      (fun a ha => by fin_cases a <;> first | rfl | exact absurd rfl ha) (by show 33 + 0 = r.val; omega)) ?_
    exact pad_zero.trans (U_out x xs b _ _ k (by omega)).symm

/-- With a zero column before. -/
theorem rC_apply (b : Fin 12) (r : Fin 34) (c : Fin 65) (k : Fin 256) :
    rC x xs (ValueIdx.ix4 b r c k) = U x xs b ((r.val + 1) / 2) ((c.val + 1) / 2) k := by
  by_cases h : c.val = 0
  · refine Eq.trans (cat_first 2 _ _ _ _ (by rfl) (ValueIdx.ix4 b r (0 : Fin 1) k) (fun a => by fin_cases a <;> first | rfl | exact h.symm)) ?_
    exact pad_zero.trans (U_out x xs b _ _ k (by omega)).symm
  · refine Eq.trans (cat_second 2 _ _ _ _ (by rfl) (by rfl) (ValueIdx.ix4 b r (⟨c.val - 1, by omega⟩ : Fin 64) k)
      (fun a ha => by fin_cases a <;> first | rfl | exact absurd rfl ha) (by show 1 + (c.val - 1) = c.val; omega)) ?_
    rw [rB_apply]
    refine congrArg (fun n => U x xs b ((r.val + 1) / 2) n k) ?_
    show (c.val - 1) / 2 + 1 = (c.val + 1) / 2; omega

/-- The framed image: pixel `(r, c)` is pixel `((r + 1) / 2, (c + 1) / 2)` of the image framed before the doubling. -/
theorem rD_apply (b : Fin 12) (r : Fin 34) (c : Fin 66) (k : Fin 256) :
    rD x xs (ValueIdx.ix4 b r c k) = U x xs b ((r.val + 1) / 2) ((c.val + 1) / 2) k := by
  by_cases h : c.val < 65
  · refine Eq.trans (cat_first 2 _ _ _ _ (by rfl) (ValueIdx.ix4 b r (⟨c.val, h⟩ : Fin 65) k) (fun a => by fin_cases a <;> rfl)) ?_
    exact rC_apply x xs b r ⟨c.val, h⟩ k
  · refine Eq.trans (cat_second 2 _ _ _ _ (by rfl) (by rfl) (ValueIdx.ix4 b r (0 : Fin 1) k)
      (fun a ha => by fin_cases a <;> first | rfl | exact absurd rfl ha) (by show 65 + 0 = c.val; omega)) ?_
    exact pad_zero.trans (U_out x xs b _ _ k (by omega)).symm

/-- The dequantised weights at an index. -/
theorem pay1_apply (ky kx : Fin 3) (k : Fin 256) (o : Fin 384) : k0_pay1 ws w (ValueIdx.ix4 ky kx k o) = W w ws ky kx k o := by
  show w (ValueIdx.ix4 ky kx k o) * broadcastTo S3x3x256x384 _ _ (ValueIdx.ix4 ky kx k o) = w (ValueIdx.ix4 ky kx k o) * ws (ValueIdx.ix2 ⟨k.val / 128, _⟩ o)
  refine congrArg (w (ValueIdx.ix4 ky kx k o) * ·) ?_
  refine Eq.trans (broadcastTo_apply _ _ _ (ValueIdx.ix4 (0 : Fin 1) (0 : Fin 1) k o) (fun a => by fin_cases a <;> rfl)) ?_
  refine Eq.trans (shapeCast_apply _ _ _ (ValueIdx.ix2 k o) (by
    rw [Shape.rowMajor_val_two, Shape.rowMajor_val_four]
    show k.val * 384 + o.val = ((0 * 1 + 0) * 256 + k.val) * 384 + o.val; omega)) ?_
  refine Eq.trans (shapeCast_apply _ _ _ (ValueIdx.ix3 (⟨k.val / 128, by omega⟩ : Fin 2) (⟨k.val % 128, by omega⟩ : Fin 128) o) (by
    rw [Shape.rowMajor_val_two, Shape.rowMajor_val_three]
    show (k.val / 128 * 128 + k.val % 128) * 384 + o.val = k.val * 384 + o.val; omega)) ?_
  refine Eq.trans (broadcastTo_apply _ _ _ (ValueIdx.ix3 (⟨k.val / 128, by omega⟩ : Fin 2) (0 : Fin 1) o) (fun a => by fin_cases a <;> rfl)) ?_
  exact shapeCast_apply ws _ _ (ValueIdx.ix2 (⟨k.val / 128, by omega⟩ : Fin 2) o) (by
    rw [Shape.rowMajor_val_two, Shape.rowMajor_val_three]
    show k.val / 128 * 384 + o.val = (k.val / 128 * 1 + 0) * 384 + o.val; omega)

/-- One tap's product over all the pixels. -/
def rTap (ky kx : Fin 3) (hi : S12x34x66x256.Slices ![0, ky.val, kx.val, 0] S12x32x64x256)
    (hw : S3x3x256x384.Slices ![ky.val, kx.val, 0, 0] S1x1x256x384) : FVec Ideal S24576x384 .f32 :=
  matmul dot_S24576x256_S256x384_S24576x384_1_0_0_1_n_n none
    (shapeCast S24576x256 (extractStridedSlice S12x32x64x256 ![0, ky.val, kx.val, 0] (rD x xs) hi) shapeCasts_S12x32x64x256_S24576x256)
    (shapeCast S256x384 (extractStridedSlice S1x1x256x384 ![ky.val, kx.val, 0, 0] (k0_pay1 ws w) hw) shapeCasts_S1x1x256x384_S256x384)
    (constant S24576x384 .f32 0x00000000#32)

/-- The row of the products that holds a pixel. -/
def pix (b : Fin 12) (r : Fin 32) (c : Fin 64) : Fin 24576 := ⟨(b.val * 32 + r.val) * 64 + c.val, by omega⟩

/-- A tap's product at a pixel. -/
theorem rTap_apply (ky kx : Fin 3) (hi) (hw) (b : Fin 12) (r : Fin 32) (c : Fin 64) (o : Fin 384) :
    rTap x xs w ws ky kx hi hw (ValueIdx.ix2 (pix b r c) o)
      = T x xs w ws ky kx b ((r.val + ky.val + 1) / 2) ((c.val + kx.val + 1) / 2) o := by
  refine Eq.trans (Ideal.matmul_plain_apply (M := 24576) (K := 256) (N := 384) (φ₁ := .bf16) (φ₂ := .bf16) none _ _ _ (pix b r c) o) ?_
  rw [show (constant S24576x384 .f32 0x00000000#32 : FVec Ideal S24576x384 .f32) (ValueIdx.ix2 (pix b r c) o) = (0 : EReal) from Ideal.ofBits_zero_f32,
    zero_add]
  refine Finset.sum_congr rfl fun k _ => ?_
  refine congrArg₂ (· * ·) ?_ ?_
  · refine Eq.trans (shapeCast_apply _ _ _ (ValueIdx.ix4 b r c k) (by
      rw [Shape.rowMajor_val_two, Shape.rowMajor_val_four]; rfl)) ?_
    refine Eq.trans (extractStridedSlice_apply _ _ _ _ (ValueIdx.ix4 b (⟨ky.val + r.val, by omega⟩ : Fin 34) (⟨kx.val + c.val, by omega⟩ : Fin 66) k)
      (fun a => by fin_cases a <;> first | rfl | exact (Nat.zero_add _).symm)) ?_
    rw [rD_apply]
    exact congrArg₂ (fun m n => U x xs b m n k) (by show (ky.val + r.val + 1) / 2 = _; omega) (by show (kx.val + c.val + 1) / 2 = _; omega)
  · refine Eq.trans (shapeCast_apply _ _ _ (ValueIdx.ix4 (0 : Fin 1) (0 : Fin 1) k o) (by
      rw [Shape.rowMajor_val_two, Shape.rowMajor_val_four]
      show ((0 * 1 + 0) * 256 + k.val) * 384 + o.val = k.val * 384 + o.val; omega)) ?_
    refine Eq.trans (extractStridedSlice_apply _ _ _ _ (ValueIdx.ix4 ky kx k o)
      (fun a => by fin_cases a <;> first | rfl | exact (Nat.zero_add _).symm)) ?_
    exact pay1_apply w ws ky kx k o

/-- The bias over all the pixels. -/
def rBias : FVec Ideal S24576x384 .f32 :=
  broadcastTo S24576x384 (shapeCast S1x384 bias shapeCasts_S384_S1x384) broadcasts_S1x384_S24576x384

/-- The bias at a pixel. -/
theorem rBias_apply (p : Fin 24576) (o : Fin 384) : rBias bias (ValueIdx.ix2 p o) = bias (ValueIdx.ix1 o) := by
  refine Eq.trans (broadcastTo_apply _ _ _ (ValueIdx.ix2 (0 : Fin 1) o) (fun a => by fin_cases a <;> rfl)) ?_
  exact shapeCast_apply bias _ _ (ValueIdx.ix1 o) (by
    rw [Shape.rowMajor_val_one, Shape.rowMajor_val_two]; show o.val = 0 * 384 + o.val; omega)

/-- The nine products and the bias, in the order the reference adds them. -/
theorem G5_eq : G5 x xs w ws bias
    = shapeCast S12x32x64x384 (truncf .bf16 (addf (addf (addf (addf (addf (addf (addf (addf (addf (addf
        (broadcast S24576x384 (Scalar.ofBits .f32 0x00000000#32 : Ideal .f32))
        (rTap x xs w ws 0 0 slices_S12x34x66x256_o0_0_0_0_S12x32x64x256 slices_S3x3x256x384_o0_0_0_0_S1x1x256x384))
        (rTap x xs w ws 0 1 slices_S12x34x66x256_o0_0_1_0_S12x32x64x256 slices_S3x3x256x384_o0_1_0_0_S1x1x256x384))
        (rTap x xs w ws 0 2 slices_S12x34x66x256_o0_0_2_0_S12x32x64x256 slices_S3x3x256x384_o0_2_0_0_S1x1x256x384))
        (rTap x xs w ws 1 0 slices_S12x34x66x256_o0_1_0_0_S12x32x64x256 slices_S3x3x256x384_o1_0_0_0_S1x1x256x384))
        (rTap x xs w ws 1 1 slices_S12x34x66x256_o0_1_1_0_S12x32x64x256 slices_S3x3x256x384_o1_1_0_0_S1x1x256x384))
        (rTap x xs w ws 1 2 slices_S12x34x66x256_o0_1_2_0_S12x32x64x256 slices_S3x3x256x384_o1_2_0_0_S1x1x256x384))
        (rTap x xs w ws 2 0 slices_S12x34x66x256_o0_2_0_0_S12x32x64x256 slices_S3x3x256x384_o2_0_0_0_S1x1x256x384))
        (rTap x xs w ws 2 1 slices_S12x34x66x256_o0_2_1_0_S12x32x64x256 slices_S3x3x256x384_o2_1_0_0_S1x1x256x384))
        (rTap x xs w ws 2 2 slices_S12x34x66x256_o0_2_2_0_S12x32x64x256 slices_S3x3x256x384_o2_2_0_0_S1x1x256x384))
        (rBias bias)) bitsLt_bf16_f32) shapeCasts_S24576x384_S12x32x64x384 := rfl

/-- The reference's result at an index. -/
theorem G5_apply (b : Fin 12) (r : Fin 32) (c : Fin 64) (o : Fin 384) :
    G5 x xs w ws bias (ValueIdx.ix4 b r c o) = Z x xs w ws bias b r c o := by
  rw [G5_eq]
  refine Eq.trans (shapeCast_apply _ _ _ (ValueIdx.ix2 (pix b r c) o) (by
    rw [Shape.rowMajor_val_two, Shape.rowMajor_val_four]; rfl)) ?_
  show (((((((((((Scalar.ofBits .f32 0x00000000#32 : Ideal .f32) : EReal) + rTap x xs w ws 0 0 _ _ _) + rTap x xs w ws 0 1 _ _ _) + rTap x xs w ws 0 2 _ _ _)
    + rTap x xs w ws 1 0 _ _ _) + rTap x xs w ws 1 1 _ _ _) + rTap x xs w ws 1 2 _ _ _) + rTap x xs w ws 2 0 _ _ _) + rTap x xs w ws 2 1 _ _ _)
    + rTap x xs w ws 2 2 _ _ _) + rBias bias _ = _
  simp only [rTap_apply, rBias_apply]
  rw [show ((Scalar.ofBits .f32 0x00000000#32 : Ideal .f32) : EReal) = 0 from Ideal.ofBits_zero_f32, zero_add, Z_eq]
  show _ = _
  simp only [Fin.val_zero, Fin.val_one, Fin.val_two, Nat.add_zero, add_assoc, Nat.reduceAdd]

end Cert.Spec

end
-- ==== Proof.Algebra.lean ====
/-
  The kernel's result is the reference's, over the exact numbers.
-/
module

public import proofs.«01_k».proof.Proof.Frame
public import proofs.«01_k».proof.Proof.KerValue
public import proofs.«01_k».proof.Proof.RefValue
public import proofs.«01_k».proof.Proof.Gen.ReferenceIdeal.Value
public import proofs.«01_k».proof.Defs

@[expose] public section

noncomputable section

namespace Cert.KernelIdeal.Hand

open Cert.KernelIdeal Cert.KernelIdeal.Gen
open Idealize.ShloMosaic Idealize.ShloMosaic.TcCoe Idealize.SL.Sem
open VecWindow (window put)
open scoped BigOperators

variable (m : (ℓ : Loc nD τ sig) → Buf (Elt Ideal) ℓ)

/-! ## The arguments -/

/-- The image as launched, -/
def aX (c : Dev nD) : Vec Ideal S12x16x32x256 .fp8e4m3 := m ((c : Thread nD τ).loc main_arg0)
/-- its scales, -/
def aXs (c : Dev nD) : Vec Ideal S12x16x32 .f32 := m ((c : Thread nD τ).loc main_arg1)
/-- the weights, -/
def aW (c : Dev nD) : Vec Ideal S3x3x256x384 .fp8e4m3 := m ((c : Thread nD τ).loc main_arg2)
/-- their scales, -/
def aWs (c : Dev nD) : Vec Ideal S2x384 .f32 := m ((c : Thread nD τ).loc main_arg3)
/-- and the bias. -/
def aB (c : Dev nD) : Vec Ideal S384 .f32 := m ((c : Thread nD τ).loc main_arg4)

/-- The weights are staged with their two tap axes joined, -/
theorem V_main_v0 (c : Dev nD) : V m c main_v0 = shapeCast S9x256x384 (aW m c) shapeCasts_S3x3x256x384_S9x256x384 := by
  show StableHlo.after hostOps0 (fun b => m (c, b)) (Proc.devRef .tc main_v0) = _
  unfold hostOps0
  rw [StableHlo.after_cons, StableHlo.after_cons, StableHlo.after_nil, StableHlo.reshape_result_ne _ _ _ _ _ _ _ (show main_v0 ≠ main_v1 by decide)]
  exact StableHlo.reshape_result main_arg2 main_v0 _ _ _ _ _
/-- and the bias as one row. -/
theorem V_main_v1 (c : Dev nD) : V m c main_v1 = shapeCast S1x384 (aB m c) shapeCasts_S384_S1x384 := by
  show StableHlo.after hostOps0 (fun b => m (c, b)) (Proc.devRef .tc main_v1) = _
  unfold hostOps0
  rw [StableHlo.after_cons, StableHlo.after_cons, StableHlo.after_nil]
  refine Eq.trans (StableHlo.reshape_result main_arg4 main_v1 _ _ _ _ _) ?_
  rw [StableHlo.reshape_result_ne _ _ _ _ _ _ _ (show main_arg4 ≠ main_v0 by decide)]
  rfl

/-! ## The staged blocks at an index -/

/-- Where each point's block of the image and of its scales lies: at the point's own number, on the first axis. -/
theorem index_x : ∀ b : Fin 12, (∀ a, (cfg0.win 0).index (pt b) a = (![b.val, 0, 0, 0] : Fin 4 → ℕ) a)
    ∧ (∀ a, (cfg0.win 1).index (pt b) a = (![b.val, 0, 0] : Fin 3 → ℕ) a) := by decide +kernel

/-- The image's block at a point is that image. -/
theorem xAt_apply (c : Dev nD) (b : Fin 12) (i : Fin 16) (j : Fin 32) (k : Fin 256) :
    xAt m c (pt b) (ValueIdx.ix4 (0 : Fin 1) i j k) = aX m c (ValueIdx.ix4 b i j k) := by
  show V m c main_arg0 (((cfg0.win 0).rect (pt b)).emb (ValueIdx.ix4 (0 : Fin 1) i j k)) = _
  rw [V_main_arg0]
  refine congrArg (aX m c) (funext fun a => Fin.ext (Eq.trans (Pipeline.Window.rect_emb_val (cfg0.win 0) (pt b) (ValueIdx.ix4 (0 : Fin 1) i j k) a) ?_))
  rw [(index_x b).1 a]
  match a with
  | 0 => show b.val * 1 + 0 = b.val; omega
  | 1 => show 0 * 16 + i.val = i.val; omega
  | 2 => show 0 * 32 + j.val = j.val; omega
  | 3 => show 0 * 256 + k.val = k.val; omega

/-- Its scales' block likewise. -/
theorem xsAt_apply (c : Dev nD) (b : Fin 12) (i : Fin 16) (j : Fin 32) :
    xsAt m c (pt b) (ValueIdx.ix3 (0 : Fin 1) i j) = aXs m c (ValueIdx.ix3 b i j) := by
  show V m c main_arg1 (((cfg0.win 1).rect (pt b)).emb (ValueIdx.ix3 (0 : Fin 1) i j)) = _
  rw [V_main_arg1]
  refine congrArg (aXs m c) (funext fun a => Fin.ext (Eq.trans (Pipeline.Window.rect_emb_val (cfg0.win 1) (pt b) (ValueIdx.ix3 (0 : Fin 1) i j) a) ?_))
  rw [(index_x b).2 a]
  match a with
  | 0 => show b.val * 1 + 0 = b.val; omega
  | 1 => show 0 * 16 + i.val = i.val; omega
  | 2 => show 0 * 32 + j.val = j.val; omega

/-- The other three blocks are whole arrays. -/
theorem index_whole : (∀ a, (cfg0.win 2).index t0_0 a = 0) ∧ (∀ a, (cfg0.win 3).index t0_0 a = 0) ∧ (∀ a, (cfg0.win 4).index t0_0 a = 0) := by
  decide +kernel

/-- The weights' block at a tap. -/
theorem w9At_apply (c : Dev nD) (ky kx : Fin 3) (n : Fin 9) (hn : n.val = 3 * ky.val + kx.val) (k : Fin 256) (o : Fin 384) :
    w9At m c t0_0 (ValueIdx.ix3 n k o) = aW m c (ValueIdx.ix4 ky kx k o) := by
  show V m c main_v0 (((cfg0.win 2).rect t0_0).emb (ValueIdx.ix3 n k o)) = _
  rw [V_main_v0]
  refine Eq.trans (congrArg (shapeCast S9x256x384 (aW m c) shapeCasts_S3x3x256x384_S9x256x384) (show _ = ValueIdx.ix3 n k o from
    funext fun a => Fin.ext (Pipeline.Window.rect_emb_val_of_index_zero (cfg0.win 2) t0_0 a (index_whole.1 a) (ValueIdx.ix3 n k o)))) ?_
  refine shapeCast_apply _ _ _ (ValueIdx.ix4 ky kx k o) ?_
  rw [Shape.rowMajor_val_four, Shape.rowMajor_val_three]
  show ((ky.val * 3 + kx.val) * 256 + k.val) * 384 + o.val = (n.val * 256 + k.val) * 384 + o.val
  rw [hn, Nat.mul_comm 3]

/-- The weights' scales. -/
theorem wsAt_apply (c : Dev nD) (kb : Fin 2) (o : Fin 384) : wsAt m c t0_0 (ValueIdx.ix2 kb o) = aWs m c (ValueIdx.ix2 kb o) := by
  show V m c main_arg3 (((cfg0.win 3).rect t0_0).emb (ValueIdx.ix2 kb o)) = _
  rw [V_main_arg3]
  exact congrArg (aWs m c) (funext fun a => Fin.ext (Pipeline.Window.rect_emb_val_of_index_zero (cfg0.win 3) t0_0 a (index_whole.2.1 a) (ValueIdx.ix2 kb o)))

/-- A group's bias. -/
theorem bias_apply (c : Dev nD) (g : Fin 3) (z : Fin 128) (o : Fin 384) (ho : o.val = 128 * g.val + z.val) :
    biasOf (biAt m c t0_0) g (ValueIdx.ix2 (0 : Fin 1) z) = aB m c (ValueIdx.ix1 o) := by
  unfold biasOf
  refine Eq.trans (shapeCast_apply _ _ _ (ValueIdx.ix2 (0 : Fin 1) z) rfl) ?_
  refine Eq.trans (window_at _ _ (ValueIdx.ix2 (0 : Fin 1) o) (fun | 0 => rfl | 1 => ho)) ?_
  show V m c main_v1 (((cfg0.win 4).rect t0_0).emb (ValueIdx.ix2 (0 : Fin 1) o)) = _
  rw [V_main_v1]
  refine Eq.trans (congrArg (shapeCast S1x384 (aB m c) shapeCasts_S384_S1x384) (show _ = ValueIdx.ix2 (0 : Fin 1) o from
    funext fun a => Fin.ext (Pipeline.Window.rect_emb_val_of_index_zero (cfg0.win 4) t0_0 a (index_whole.2.2 a) (ValueIdx.ix2 (0 : Fin 1) o)))) ?_
  refine shapeCast_apply _ _ _ (ValueIdx.ix1 o) ?_
  rw [Shape.rowMajor_val_one, Shape.rowMajor_val_two]
  show o.val = 0 * 384 + o.val; omega

/-! ## The result -/

/-- The nine dots, by number. -/
theorem dotsOf_apply (X : Vec Ideal S512x256 .bf16) (W : Fin 9 → Vec Ideal S1x256x128 .bf16) (n : Fin 9) : dotsOf X W n = dotP X (W n) :=
  match n with | 0 | 1 | 2 | 3 | 4 | 5 | 6 | 7 | 8 => rfl

/-- A tap's dot is the tap's product at the framed pixel. -/
theorem dot_eq (c : Dev nD) (b : Fin 12) (g : Fin 3) (z : Fin 128) (o : Fin 384) (ho : o.val = 128 * g.val + z.val)
    (ky kx : Fin 3) (n : Fin 9) (hn : tapRow n.val = 3 * ky.val + kx.val) (i : Fin 16) (t : Fin 4) (s : Fin 8) (q : Fin 32)
    (hq : q.val = 8 * t.val + s.val) :
    dotsOf (imgB (xsAt m c (pt b)) (xAt m c (pt b))) (tapW (w9At m c t0_0) (wsAt m c t0_0) g) n (ValueIdx.ix3 i q z)
      = Cert.Spec.T (aX m c) (aXs m c) (aW m c) (aWs m c) ky kx b (i.val + 1) (4 * s.val + t.val + 1) o := by
  rw [dotsOf_apply]
  refine Eq.trans (dotP_apply _ _ i q z) ?_
  unfold Cert.Spec.T
  refine Finset.sum_congr rfl fun k _ => ?_
  rw [Cert.Spec.U_in (aX m c) (aXs m c) b i ⟨4 * s.val + t.val, by omega⟩ k _ _ rfl rfl]
  refine congrArg₂ (fun a b : EReal => a * b) ?_ ?_
  · refine Eq.trans (imgB_apply _ _ i t s k _ (by show 32 * i.val + q.val = _; rw [hq])) ?_
    exact congrArg₂ (fun a b : EReal => a * b) (xAt_apply m c b i _ k) (xsAt_apply m c b i _)
  · refine Eq.trans (tapW_apply _ _ g n k z o ho) ?_
    exact congrArg₂ (fun a b : EReal => a * b) (w9At_apply m c ky kx _ hn k o) (wsAt_apply m c _ o)

/-- The kernel's result is the reference's. -/
theorem Yout_eq (c : Dev nD) : Yout m c = Cert.ReferenceIdeal.Value.G5 (F := Ideal) (aX m c) (aXs m c) (aW m c) (aWs m c) (aB m c) := by
  funext y
  rw [ValueIdx.eq_ix4 y]
  generalize hb : y 0 = b
  generalize hr : y 1 = r
  generalize hc : y 2 = cc
  generalize ho : y 3 = o
  clear hb hr hc ho
  refine Eq.trans ?_ (Cert.Spec.G5_apply (aX m c) (aXs m c) (aW m c) (aWs m c) (aB m c) b r cc o).symm
  refine Eq.trans ?_ (Cert.Spec.Z_eq (aX m c) (aXs m c) (aW m c) (aWs m c) (aB m c) b r cc o).symm
  have e : o.val = 128 * (o.val / 128) + o.val % 128 := by omega
  show Yt m c b ⟨o.val / 128, _⟩ (ValueIdx.ix3 r cc (⟨o.val % 128, _⟩ : Fin 128)) = _
  unfold Yt
  refine Eq.trans (outTile_apply _ _ _ (fun ky kx r c' => Cert.Spec.T (aX m c) (aXs m c) (aW m c) (aWs m c) ky kx b r c' o)
    (fun ky kx n hn i t s q hq => dot_eq m c b _ _ o e ky kx n hn i t s q hq)
    (fun ky kx r c' h => Cert.Spec.T_out (aX m c) (aXs m c) (aW m c) (aWs m c) ky kx b r c' o h) r cc) ?_
  exact congrArg (fun v : EReal => _ + v) (bias_apply m c _ _ o e)

end Cert.KernelIdeal.Hand

namespace Cert.Proof

open Idealize.ShloMosaic Idealize.SL.Sem

/-- Run on the same arguments, the kernel and the reference end with equal results, over the exact numbers. -/
theorem algebraic : Cert.algebraic_KernelIdeal_ReferenceIdeal (hKernelIdeal := Cert.KernelIdeal.Gen.facts)
    (hReferenceIdeal := Cert.ReferenceIdeal.Gen.facts) := fun m g m' g' _ h =>
  ⟨fun c => Cert.KernelIdeal.Hand.Yout m c,
    (θ_run _ _ _).mono (fun _ hr => hr.1) (Cert.KernelIdeal.Hand.run_end m g),
    (θ_run _ _ _).mono (fun _ hr c => ⟨(hr c).1.trans (by
      obtain ⟨h0, h1, h2, h3, h4⟩ := h c
      rw [h0, h1, h2, h3, h4]
      exact (Cert.KernelIdeal.Hand.Yout_eq m c).symm), (hr c).2⟩) (Cert.ReferenceIdeal.Value.run m' g')⟩

end Cert.Proof

end
-- ==== Proof.lean ====
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Same
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The claims. -/
theorem claim : Cert.Claim := ⟨Cert.Kernel.Gen.facts, Cert.KernelIdeal.Gen.facts, Cert.ReferenceIdeal.Gen.facts,
  quiescent, fun m g _ => Cert.KernelIdeal.Hand.frame m g, fun m g _ => Cert.ReferenceIdeal.Gen.frame m g, trivial, algebraic⟩

end Cert.Proof

end
